-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_x_spline [hPre_finite_x_spline : Cert.Pre_finite_x_spline.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x_spline.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_x_spline.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_KernelCos (m : (ℓ : Loc Cert.KernelCos.nD Cert.KernelCos.τ Cert.KernelCos.sig) → Buf (Elt Bits) ℓ) : Prop :=
  True

def Pre_KernelCosIdeal (m : (ℓ : Loc Cert.KernelCosIdeal.nD Cert.KernelCosIdeal.τ Cert.KernelCosIdeal.sig) → Buf (Elt Ideal) ℓ) : Prop :=
  True

def Pre_KernelCosIdeal_finite_x [hPre_finite_x : Cert.Pre_finite_x.Facts] (m : (ℓ : Loc Cert.KernelCosIdeal.nD Cert.KernelCosIdeal.τ Cert.KernelCosIdeal.sig) → Buf (Elt Ideal) ℓ) : Prop :=
  ∀ c : Dev Cert.KernelCosIdeal.nD,
    (Cert.Pre_finite_x.fn (F := Ideal) (m ((c.tc : Thread Cert.KernelCosIdeal.nD Cert.KernelCosIdeal.τ).loc Cert.KernelCosIdeal.main_arg0)) (m ((c.tc : Thread Cert.KernelCosIdeal.nD Cert.KernelCosIdeal.τ).loc Cert.KernelCosIdeal.main_arg1)) (m ((c.tc : Thread Cert.KernelCosIdeal.nD Cert.KernelCosIdeal.τ).loc Cert.KernelCosIdeal.main_arg2)) (m ((c.tc : Thread Cert.KernelCosIdeal.nD Cert.KernelCosIdeal.τ).loc Cert.KernelCosIdeal.main_arg3)) (m ((c.tc : Thread Cert.KernelCosIdeal.nD Cert.KernelCosIdeal.τ).loc Cert.KernelCosIdeal.main_arg4))) = (fun _ => 1#1)

def Pre_KernelOne (m : (ℓ : Loc Cert.KernelOne.nD Cert.KernelOne.τ Cert.KernelOne.sig) → Buf (Elt Bits) ℓ) : Prop :=
  True

def Pre_KernelOneIdeal (m : (ℓ : Loc Cert.KernelOneIdeal.nD Cert.KernelOneIdeal.τ Cert.KernelOneIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ReferenceIdeal_finite_x [hPre_finite_x : Cert.Pre_finite_x.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_x_spline [hKernelIdeal : Cert.KernelIdeal.Facts] [hPre_finite_x_spline : Cert.Pre_finite_x_spline.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x_spline m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelCos [hKernelCos : Cert.KernelCos.Facts] : Prop :=
  ∀ (m : (ℓ : Loc Cert.KernelCos.nD Cert.KernelCos.τ Cert.KernelCos.sig) → Buf (Elt Bits) ℓ) (g : Dev Cert.KernelCos.nD → PrngReg), Pre_KernelCos m →
    θ_run (Cert.KernelCos.defs (F := Bits)) (onTc (τ := Cert.KernelCos.τ) (Cert.KernelCos.main (F := Bits))) ⟨m, fun _ => 0, g⟩ (fun r => (∀ c : Dev Cert.KernelCos.nD,
      r.2.mem ((c.tc : Thread Cert.KernelCos.nD Cert.KernelCos.τ).loc Cert.KernelCos.main_arg0) = m ((c.tc : Thread Cert.KernelCos.nD Cert.KernelCos.τ).loc Cert.KernelCos.main_arg0)
      ∧ r.2.mem ((c.tc : Thread Cert.KernelCos.nD Cert.KernelCos.τ).loc Cert.KernelCos.main_arg1) = m ((c.tc : Thread Cert.KernelCos.nD Cert.KernelCos.τ).loc Cert.KernelCos.main_arg1)
      ∧ r.2.mem ((c.tc : Thread Cert.KernelCos.nD Cert.KernelCos.τ).loc Cert.KernelCos.main_arg2) = m ((c.tc : Thread Cert.KernelCos.nD Cert.KernelCos.τ).loc Cert.KernelCos.main_arg2)
      ∧ r.2.mem ((c.tc : Thread Cert.KernelCos.nD Cert.KernelCos.τ).loc Cert.KernelCos.main_arg3) = m ((c.tc : Thread Cert.KernelCos.nD Cert.KernelCos.τ).loc Cert.KernelCos.main_arg3)
      ∧ r.2.mem ((c.tc : Thread Cert.KernelCos.nD Cert.KernelCos.τ).loc Cert.KernelCos.main_arg4) = m ((c.tc : Thread Cert.KernelCos.nD Cert.KernelCos.τ).loc Cert.KernelCos.main_arg4))
      ∧ r.2.sem = fun _ => 0)

def quiescent_KernelCosIdeal [hKernelCosIdeal : Cert.KernelCosIdeal.Facts] : Prop :=
  ∀ (m : (ℓ : Loc Cert.KernelCosIdeal.nD Cert.KernelCosIdeal.τ Cert.KernelCosIdeal.sig) → Buf (Elt Ideal) ℓ) (g : Dev Cert.KernelCosIdeal.nD → PrngReg), Pre_KernelCosIdeal m →
    θ_run (Cert.KernelCosIdeal.defs (F := Ideal)) (onTc (τ := Cert.KernelCosIdeal.τ) (Cert.KernelCosIdeal.main (F := Ideal))) ⟨m, fun _ => 0, g⟩ (fun r => (∀ c : Dev Cert.KernelCosIdeal.nD,
      r.2.mem ((c.tc : Thread Cert.KernelCosIdeal.nD Cert.KernelCosIdeal.τ).loc Cert.KernelCosIdeal.main_arg0) = m ((c.tc : Thread Cert.KernelCosIdeal.nD Cert.KernelCosIdeal.τ).loc Cert.KernelCosIdeal.main_arg0)
      ∧ r.2.mem ((c.tc : Thread Cert.KernelCosIdeal.nD Cert.KernelCosIdeal.τ).loc Cert.KernelCosIdeal.main_arg1) = m ((c.tc : Thread Cert.KernelCosIdeal.nD Cert.KernelCosIdeal.τ).loc Cert.KernelCosIdeal.main_arg1)
      ∧ r.2.mem ((c.tc : Thread Cert.KernelCosIdeal.nD Cert.KernelCosIdeal.τ).loc Cert.KernelCosIdeal.main_arg2) = m ((c.tc : Thread Cert.KernelCosIdeal.nD Cert.KernelCosIdeal.τ).loc Cert.KernelCosIdeal.main_arg2)
      ∧ r.2.mem ((c.tc : Thread Cert.KernelCosIdeal.nD Cert.KernelCosIdeal.τ).loc Cert.KernelCosIdeal.main_arg3) = m ((c.tc : Thread Cert.KernelCosIdeal.nD Cert.KernelCosIdeal.τ).loc Cert.KernelCosIdeal.main_arg3)
      ∧ r.2.mem ((c.tc : Thread Cert.KernelCosIdeal.nD Cert.KernelCosIdeal.τ).loc Cert.KernelCosIdeal.main_arg4) = m ((c.tc : Thread Cert.KernelCosIdeal.nD Cert.KernelCosIdeal.τ).loc Cert.KernelCosIdeal.main_arg4))
      ∧ r.2.sem = fun _ => 0)

def quiescent_KernelCosIdeal_pre_finite_x [hKernelCosIdeal : Cert.KernelCosIdeal.Facts] [hPre_finite_x : Cert.Pre_finite_x.Facts] : Prop :=
  ∀ (m : (ℓ : Loc Cert.KernelCosIdeal.nD Cert.KernelCosIdeal.τ Cert.KernelCosIdeal.sig) → Buf (Elt Ideal) ℓ) (g : Dev Cert.KernelCosIdeal.nD → PrngReg), Pre_KernelCosIdeal_finite_x m →
    θ_run (Cert.KernelCosIdeal.defs (F := Ideal)) (onTc (τ := Cert.KernelCosIdeal.τ) (Cert.KernelCosIdeal.main (F := Ideal))) ⟨m, fun _ => 0, g⟩ (fun r => (∀ c : Dev Cert.KernelCosIdeal.nD,
      r.2.mem ((c.tc : Thread Cert.KernelCosIdeal.nD Cert.KernelCosIdeal.τ).loc Cert.KernelCosIdeal.main_arg0) = m ((c.tc : Thread Cert.KernelCosIdeal.nD Cert.KernelCosIdeal.τ).loc Cert.KernelCosIdeal.main_arg0)
      ∧ r.2.mem ((c.tc : Thread Cert.KernelCosIdeal.nD Cert.KernelCosIdeal.τ).loc Cert.KernelCosIdeal.main_arg1) = m ((c.tc : Thread Cert.KernelCosIdeal.nD Cert.KernelCosIdeal.τ).loc Cert.KernelCosIdeal.main_arg1)
      ∧ r.2.mem ((c.tc : Thread Cert.KernelCosIdeal.nD Cert.KernelCosIdeal.τ).loc Cert.KernelCosIdeal.main_arg2) = m ((c.tc : Thread Cert.KernelCosIdeal.nD Cert.KernelCosIdeal.τ).loc Cert.KernelCosIdeal.main_arg2)
      ∧ r.2.mem ((c.tc : Thread Cert.KernelCosIdeal.nD Cert.KernelCosIdeal.τ).loc Cert.KernelCosIdeal.main_arg3) = m ((c.tc : Thread Cert.KernelCosIdeal.nD Cert.KernelCosIdeal.τ).loc Cert.KernelCosIdeal.main_arg3)
      ∧ r.2.mem ((c.tc : Thread Cert.KernelCosIdeal.nD Cert.KernelCosIdeal.τ).loc Cert.KernelCosIdeal.main_arg4) = m ((c.tc : Thread Cert.KernelCosIdeal.nD Cert.KernelCosIdeal.τ).loc Cert.KernelCosIdeal.main_arg4))
      ∧ r.2.sem = fun _ => 0)

def quiescent_KernelOne [hKernelOne : Cert.KernelOne.Facts] : Prop :=
  ∀ (m : (ℓ : Loc Cert.KernelOne.nD Cert.KernelOne.τ Cert.KernelOne.sig) → Buf (Elt Bits) ℓ) (g : Dev Cert.KernelOne.nD → PrngReg), Pre_KernelOne m →
    θ_run (Cert.KernelOne.defs (F := Bits)) (onTc (τ := Cert.KernelOne.τ) (Cert.KernelOne.main (F := Bits))) ⟨m, fun _ => 0, g⟩ (fun r => (∀ c : Dev Cert.KernelOne.nD,
      r.2.mem ((c.tc : Thread Cert.KernelOne.nD Cert.KernelOne.τ).loc Cert.KernelOne.main_arg0) = m ((c.tc : Thread Cert.KernelOne.nD Cert.KernelOne.τ).loc Cert.KernelOne.main_arg0)
      ∧ r.2.mem ((c.tc : Thread Cert.KernelOne.nD Cert.KernelOne.τ).loc Cert.KernelOne.main_arg1) = m ((c.tc : Thread Cert.KernelOne.nD Cert.KernelOne.τ).loc Cert.KernelOne.main_arg1)
      ∧ r.2.mem ((c.tc : Thread Cert.KernelOne.nD Cert.KernelOne.τ).loc Cert.KernelOne.main_arg2) = m ((c.tc : Thread Cert.KernelOne.nD Cert.KernelOne.τ).loc Cert.KernelOne.main_arg2)
      ∧ r.2.mem ((c.tc : Thread Cert.KernelOne.nD Cert.KernelOne.τ).loc Cert.KernelOne.main_arg3) = m ((c.tc : Thread Cert.KernelOne.nD Cert.KernelOne.τ).loc Cert.KernelOne.main_arg3)
      ∧ r.2.mem ((c.tc : Thread Cert.KernelOne.nD Cert.KernelOne.τ).loc Cert.KernelOne.main_arg4) = m ((c.tc : Thread Cert.KernelOne.nD Cert.KernelOne.τ).loc Cert.KernelOne.main_arg4))
      ∧ r.2.sem = fun _ => 0)

def quiescent_KernelOneIdeal [hKernelOneIdeal : Cert.KernelOneIdeal.Facts] : Prop :=
  ∀ (m : (ℓ : Loc Cert.KernelOneIdeal.nD Cert.KernelOneIdeal.τ Cert.KernelOneIdeal.sig) → Buf (Elt Ideal) ℓ) (g : Dev Cert.KernelOneIdeal.nD → PrngReg), Pre_KernelOneIdeal m →
    θ_run (Cert.KernelOneIdeal.defs (F := Ideal)) (onTc (τ := Cert.KernelOneIdeal.τ) (Cert.KernelOneIdeal.main (F := Ideal))) ⟨m, fun _ => 0, g⟩ (fun r => (∀ c : Dev Cert.KernelOneIdeal.nD,
      r.2.mem ((c.tc : Thread Cert.KernelOneIdeal.nD Cert.KernelOneIdeal.τ).loc Cert.KernelOneIdeal.main_arg0) = m ((c.tc : Thread Cert.KernelOneIdeal.nD Cert.KernelOneIdeal.τ).loc Cert.KernelOneIdeal.main_arg0)
      ∧ r.2.mem ((c.tc : Thread Cert.KernelOneIdeal.nD Cert.KernelOneIdeal.τ).loc Cert.KernelOneIdeal.main_arg1) = m ((c.tc : Thread Cert.KernelOneIdeal.nD Cert.KernelOneIdeal.τ).loc Cert.KernelOneIdeal.main_arg1)
      ∧ r.2.mem ((c.tc : Thread Cert.KernelOneIdeal.nD Cert.KernelOneIdeal.τ).loc Cert.KernelOneIdeal.main_arg2) = m ((c.tc : Thread Cert.KernelOneIdeal.nD Cert.KernelOneIdeal.τ).loc Cert.KernelOneIdeal.main_arg2)
      ∧ r.2.mem ((c.tc : Thread Cert.KernelOneIdeal.nD Cert.KernelOneIdeal.τ).loc Cert.KernelOneIdeal.main_arg3) = m ((c.tc : Thread Cert.KernelOneIdeal.nD Cert.KernelOneIdeal.τ).loc Cert.KernelOneIdeal.main_arg3)
      ∧ r.2.mem ((c.tc : Thread Cert.KernelOneIdeal.nD Cert.KernelOneIdeal.τ).loc Cert.KernelOneIdeal.main_arg4) = m ((c.tc : Thread Cert.KernelOneIdeal.nD Cert.KernelOneIdeal.τ).loc Cert.KernelOneIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_x [hReferenceIdeal : Cert.ReferenceIdeal.Facts] [hPre_finite_x : Cert.Pre_finite_x.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def preserves_Kernel_KernelIdeal : Prop :=
  True

def preserves_KernelCos_KernelCosIdeal : Prop :=
  True

def preserves_KernelOne_KernelOneIdeal : Prop :=
  True

def preserves_Reference_ReferenceIdeal : Prop :=
  True

def holds_KernelIdeal_within_cosine_error_pre_finite_x_spline [hKernelIdeal : Cert.KernelIdeal.Facts] [hPre_finite_x_spline : Cert.Pre_finite_x_spline.Facts] [hPost_within_cosine_error : Cert.Post_within_cosine_error.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x_spline m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ (Cert.Post_within_cosine_error.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (r.2.mem ((c.tc : Thread Cert.KernelIdeal.nD Cert.KernelIdeal.τ).loc Cert.KernelIdeal.main_v8))).1 = (fun _ => 1#1)
      ∧ (Cert.Post_within_cosine_error.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (r.2.mem ((c.tc : Thread Cert.KernelIdeal.nD Cert.KernelIdeal.τ).loc Cert.KernelIdeal.main_v8))).2 = (fun _ => 1#1))

def algebraic_KernelCosIdeal_ReferenceIdeal_pre_finite_x [hKernelCosIdeal : Cert.KernelCosIdeal.Facts] [hReferenceIdeal : Cert.ReferenceIdeal.Facts] [hPre_finite_x : Cert.Pre_finite_x.Facts] : Prop :=
  ∀ (m : (ℓ : Loc Cert.KernelCosIdeal.nD Cert.KernelCosIdeal.τ Cert.KernelCosIdeal.sig) → Buf (Elt Ideal) ℓ) (g : Dev Cert.KernelCosIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelCosIdeal_finite_x m →
    (∀ c : Dev Cert.KernelCosIdeal.nD,
      m' ((c.tc : Thread Cert.ReferenceIdeal.nD Cert.ReferenceIdeal.τ).loc Cert.ReferenceIdeal.main_arg0) = m ((c.tc : Thread Cert.KernelCosIdeal.nD Cert.KernelCosIdeal.τ).loc Cert.KernelCosIdeal.main_arg0)
      ∧ m' ((c.tc : Thread Cert.ReferenceIdeal.nD Cert.ReferenceIdeal.τ).loc Cert.ReferenceIdeal.main_arg1) = m ((c.tc : Thread Cert.KernelCosIdeal.nD Cert.KernelCosIdeal.τ).loc Cert.KernelCosIdeal.main_arg1)
      ∧ m' ((c.tc : Thread Cert.ReferenceIdeal.nD Cert.ReferenceIdeal.τ).loc Cert.ReferenceIdeal.main_arg2) = m ((c.tc : Thread Cert.KernelCosIdeal.nD Cert.KernelCosIdeal.τ).loc Cert.KernelCosIdeal.main_arg2)
      ∧ m' ((c.tc : Thread Cert.ReferenceIdeal.nD Cert.ReferenceIdeal.τ).loc Cert.ReferenceIdeal.main_arg3) = m ((c.tc : Thread Cert.KernelCosIdeal.nD Cert.KernelCosIdeal.τ).loc Cert.KernelCosIdeal.main_arg3)
      ∧ m' ((c.tc : Thread Cert.ReferenceIdeal.nD Cert.ReferenceIdeal.τ).loc Cert.ReferenceIdeal.main_arg4) = m ((c.tc : Thread Cert.KernelCosIdeal.nD Cert.KernelCosIdeal.τ).loc Cert.KernelCosIdeal.main_arg4)) →
    ∃ (v0 : (c : Dev Cert.KernelCosIdeal.nD) → Buf (Elt Ideal) ((c.tc : Thread Cert.KernelCosIdeal.nD Cert.KernelCosIdeal.τ).loc Cert.KernelCosIdeal.main_v8)),
      θ_run (Cert.KernelCosIdeal.defs (F := Ideal)) (onTc (τ := Cert.KernelCosIdeal.τ) (Cert.KernelCosIdeal.main (F := Ideal))) ⟨m, fun _ => 0, g⟩ (fun r => ∀ c : Dev Cert.KernelCosIdeal.nD,
          r.2.mem ((c.tc : Thread Cert.KernelCosIdeal.nD Cert.KernelCosIdeal.τ).loc Cert.KernelCosIdeal.main_v8) = v0 c
          ∧ r.2.mem ((c.tc : Thread Cert.KernelCosIdeal.nD Cert.KernelCosIdeal.τ).loc Cert.KernelCosIdeal.main_arg0) = m ((c.tc : Thread Cert.KernelCosIdeal.nD Cert.KernelCosIdeal.τ).loc Cert.KernelCosIdeal.main_arg0)
          ∧ r.2.mem ((c.tc : Thread Cert.KernelCosIdeal.nD Cert.KernelCosIdeal.τ).loc Cert.KernelCosIdeal.main_arg1) = m ((c.tc : Thread Cert.KernelCosIdeal.nD Cert.KernelCosIdeal.τ).loc Cert.KernelCosIdeal.main_arg1)
          ∧ r.2.mem ((c.tc : Thread Cert.KernelCosIdeal.nD Cert.KernelCosIdeal.τ).loc Cert.KernelCosIdeal.main_arg2) = m ((c.tc : Thread Cert.KernelCosIdeal.nD Cert.KernelCosIdeal.τ).loc Cert.KernelCosIdeal.main_arg2)
          ∧ r.2.mem ((c.tc : Thread Cert.KernelCosIdeal.nD Cert.KernelCosIdeal.τ).loc Cert.KernelCosIdeal.main_arg3) = m ((c.tc : Thread Cert.KernelCosIdeal.nD Cert.KernelCosIdeal.τ).loc Cert.KernelCosIdeal.main_arg3)
          ∧ r.2.mem ((c.tc : Thread Cert.KernelCosIdeal.nD Cert.KernelCosIdeal.τ).loc Cert.KernelCosIdeal.main_arg4) = m ((c.tc : Thread Cert.KernelCosIdeal.nD Cert.KernelCosIdeal.τ).loc Cert.KernelCosIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def algebraic_KernelOneIdeal_ReferenceIdeal [hKernelOneIdeal : Cert.KernelOneIdeal.Facts] [hReferenceIdeal : Cert.ReferenceIdeal.Facts] : Prop :=
  ∀ (m : (ℓ : Loc Cert.KernelOneIdeal.nD Cert.KernelOneIdeal.τ Cert.KernelOneIdeal.sig) → Buf (Elt Ideal) ℓ) (g : Dev Cert.KernelOneIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelOneIdeal m →
    (∀ c : Dev Cert.KernelOneIdeal.nD,
      m' ((c.tc : Thread Cert.ReferenceIdeal.nD Cert.ReferenceIdeal.τ).loc Cert.ReferenceIdeal.main_arg0) = m ((c.tc : Thread Cert.KernelOneIdeal.nD Cert.KernelOneIdeal.τ).loc Cert.KernelOneIdeal.main_arg0)
      ∧ m' ((c.tc : Thread Cert.ReferenceIdeal.nD Cert.ReferenceIdeal.τ).loc Cert.ReferenceIdeal.main_arg1) = m ((c.tc : Thread Cert.KernelOneIdeal.nD Cert.KernelOneIdeal.τ).loc Cert.KernelOneIdeal.main_arg1)
      ∧ m' ((c.tc : Thread Cert.ReferenceIdeal.nD Cert.ReferenceIdeal.τ).loc Cert.ReferenceIdeal.main_arg2) = m ((c.tc : Thread Cert.KernelOneIdeal.nD Cert.KernelOneIdeal.τ).loc Cert.KernelOneIdeal.main_arg2)
      ∧ m' ((c.tc : Thread Cert.ReferenceIdeal.nD Cert.ReferenceIdeal.τ).loc Cert.ReferenceIdeal.main_arg3) = m ((c.tc : Thread Cert.KernelOneIdeal.nD Cert.KernelOneIdeal.τ).loc Cert.KernelOneIdeal.main_arg3)
      ∧ m' ((c.tc : Thread Cert.ReferenceIdeal.nD Cert.ReferenceIdeal.τ).loc Cert.ReferenceIdeal.main_arg4) = m ((c.tc : Thread Cert.KernelOneIdeal.nD Cert.KernelOneIdeal.τ).loc Cert.KernelOneIdeal.main_arg4)) →
    ∃ (v0 : (c : Dev Cert.KernelOneIdeal.nD) → Buf (Elt Ideal) ((c.tc : Thread Cert.KernelOneIdeal.nD Cert.KernelOneIdeal.τ).loc Cert.KernelOneIdeal.main_v8)),
      θ_run (Cert.KernelOneIdeal.defs (F := Ideal)) (onTc (τ := Cert.KernelOneIdeal.τ) (Cert.KernelOneIdeal.main (F := Ideal))) ⟨m, fun _ => 0, g⟩ (fun r => ∀ c : Dev Cert.KernelOneIdeal.nD,
          r.2.mem ((c.tc : Thread Cert.KernelOneIdeal.nD Cert.KernelOneIdeal.τ).loc Cert.KernelOneIdeal.main_v8) = v0 c
          ∧ r.2.mem ((c.tc : Thread Cert.KernelOneIdeal.nD Cert.KernelOneIdeal.τ).loc Cert.KernelOneIdeal.main_arg0) = m ((c.tc : Thread Cert.KernelOneIdeal.nD Cert.KernelOneIdeal.τ).loc Cert.KernelOneIdeal.main_arg0)
          ∧ r.2.mem ((c.tc : Thread Cert.KernelOneIdeal.nD Cert.KernelOneIdeal.τ).loc Cert.KernelOneIdeal.main_arg1) = m ((c.tc : Thread Cert.KernelOneIdeal.nD Cert.KernelOneIdeal.τ).loc Cert.KernelOneIdeal.main_arg1)
          ∧ r.2.mem ((c.tc : Thread Cert.KernelOneIdeal.nD Cert.KernelOneIdeal.τ).loc Cert.KernelOneIdeal.main_arg2) = m ((c.tc : Thread Cert.KernelOneIdeal.nD Cert.KernelOneIdeal.τ).loc Cert.KernelOneIdeal.main_arg2)
          ∧ r.2.mem ((c.tc : Thread Cert.KernelOneIdeal.nD Cert.KernelOneIdeal.τ).loc Cert.KernelOneIdeal.main_arg3) = m ((c.tc : Thread Cert.KernelOneIdeal.nD Cert.KernelOneIdeal.τ).loc Cert.KernelOneIdeal.main_arg3)
          ∧ r.2.mem ((c.tc : Thread Cert.KernelOneIdeal.nD Cert.KernelOneIdeal.τ).loc Cert.KernelOneIdeal.main_arg4) = m ((c.tc : Thread Cert.KernelOneIdeal.nD Cert.KernelOneIdeal.τ).loc Cert.KernelOneIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hKernelCos : Cert.KernelCos.Facts) (hKernelCosIdeal : Cert.KernelCosIdeal.Facts) (hKernelOne : Cert.KernelOne.Facts) (hKernelOneIdeal : Cert.KernelOneIdeal.Facts) (hReferenceIdeal : Cert.ReferenceIdeal.Facts) (hReference : Cert.Reference.Facts) (hPre_finite_x_spline : Cert.Pre_finite_x_spline.Facts) (hPre_finite_x : Cert.Pre_finite_x.Facts) (hPost_within_cosine_error : Cert.Post_within_cosine_error.Facts),
    quiescent_Kernel (hKernel := hKernel)
    ∧ quiescent_KernelIdeal (hKernelIdeal := hKernelIdeal)
    ∧ quiescent_KernelIdeal_pre_finite_x_spline (hKernelIdeal := hKernelIdeal) (hPre_finite_x_spline := hPre_finite_x_spline)
    ∧ quiescent_KernelCos (hKernelCos := hKernelCos)
    ∧ quiescent_KernelCosIdeal (hKernelCosIdeal := hKernelCosIdeal)
    ∧ quiescent_KernelCosIdeal_pre_finite_x (hKernelCosIdeal := hKernelCosIdeal) (hPre_finite_x := hPre_finite_x)
    ∧ quiescent_KernelOne (hKernelOne := hKernelOne)
    ∧ quiescent_KernelOneIdeal (hKernelOneIdeal := hKernelOneIdeal)
    ∧ quiescent_ReferenceIdeal (hReferenceIdeal := hReferenceIdeal)
    ∧ quiescent_ReferenceIdeal_pre_finite_x (hReferenceIdeal := hReferenceIdeal) (hPre_finite_x := hPre_finite_x)
    ∧ quiescent_Reference (hReference := hReference)
    ∧ preserves_Kernel_KernelIdeal
    ∧ preserves_KernelCos_KernelCosIdeal
    ∧ preserves_KernelOne_KernelOneIdeal
    ∧ preserves_Reference_ReferenceIdeal
    ∧ holds_KernelIdeal_within_cosine_error_pre_finite_x_spline (hKernelIdeal := hKernelIdeal) (hPre_finite_x_spline := hPre_finite_x_spline) (hPost_within_cosine_error := hPost_within_cosine_error)
    ∧ algebraic_KernelCosIdeal_ReferenceIdeal_pre_finite_x (hKernelCosIdeal := hKernelCosIdeal) (hReferenceIdeal := hReferenceIdeal) (hPre_finite_x := hPre_finite_x)
    ∧ algebraic_KernelOneIdeal_ReferenceIdeal (hKernelOneIdeal := hKernelOneIdeal) (hReferenceIdeal := hReferenceIdeal)
-- ==== Post_within_cosine_error.lean ====
abbrev S8x2048x2048 : Shape := ⟨3, ![8, 2048, 2048]⟩
abbrev S2048 : Shape := ⟨1, ![2048]⟩
abbrev S2048x2048 : Shape := ⟨2, ![2048, 2048]⟩
abbrev S2048x2048x8 : Shape := ⟨3, ![2048, 2048, 8]⟩
abbrev S16384x2048 : Shape := ⟨2, ![16384, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S8 : Shape := ⟨1, ![8]⟩
abbrev S8x2048x2048x1 : Shape := ⟨4, ![8, 2048, 2048, 1]⟩
abbrev S1x1x1x8 : Shape := ⟨4, ![1, 1, 1, 8]⟩
abbrev S8x2048x2048x8 : Shape := ⟨4, ![8, 2048, 2048, 8]⟩
abbrev S1x2048 : Shape := ⟨2, ![1, 2048]⟩

class Facts : Prop where
  reducesTo_S8x2048x2048_S8x2048_d2 : S8x2048x2048.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x2048_0_1_2 : S8x2048x1.BroadcastsInDim S8x2048x2048 (![0, 1, 2] : Fin 3 → Fin S8x2048x2048.rank)
  bcast_S2048_S1x1x2048_2 : S2048.BroadcastsInDim S1x1x2048 (![2] : Fin 1 → Fin S1x1x2048.rank)
  bcast_S1x1x2048_S8x2048x2048_0_1_2 : S1x1x2048.BroadcastsInDim S8x2048x2048 (![0, 1, 2] : Fin 3 → Fin S8x2048x2048.rank)
  bcast_S_S8x2048x2048 : S_.BroadcastsInDim S8x2048x2048 (![] : Fin 0 → Fin S8x2048x2048.rank)
  bcast_S_S8 : S_.BroadcastsInDim S8 (![] : Fin 0 → Fin S8.rank)
  bcast_S8x2048x2048_S8x2048x2048x1_0_1_2 : S8x2048x2048.BroadcastsInDim S8x2048x2048x1 (![0, 1, 2] : Fin 3 → Fin S8x2048x2048x1.rank)
  bcast_S8_S1x1x1x8_3 : S8.BroadcastsInDim S1x1x1x8 (![3] : Fin 1 → Fin S1x1x1x8.rank)
  bcast_S8x2048x2048x1_S8x2048x2048x8_0_1_2_3 : S8x2048x2048x1.BroadcastsInDim S8x2048x2048x8 (![0, 1, 2, 3] : Fin 4 → Fin S8x2048x2048x8.rank)
  bcast_S1x1x1x8_S8x2048x2048x8_0_1_2_3 : S1x1x1x8.BroadcastsInDim S8x2048x2048x8 (![0, 1, 2, 3] : Fin 4 → Fin S8x2048x2048x8.rank)
  shapeCasts_S8x2048x2048_S16384x2048 : S8x2048x2048.ShapeCasts S16384x2048
  reducesTo_S2048x2048x8_S2048_d1_2 : S2048x2048x8.ReducesTo [1, 2] S2048
  bcast_S_S2048 : S_.BroadcastsInDim S2048 (![] : Fin 0 → Fin S2048.rank)
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  dot_S8x2048x2048_S2048x2048_S8x2048x2048_2_1_01_0_n_n_wf : DotDims.WF S8x2048x2048 S2048x2048 S8x2048x2048 [2] [1] [0, 1] [0] [] []
  dot_S8x2048x2048x8_S2048x2048x8_S8x2048x2048_32_21_01_0_n_n_wf : DotDims.WF S8x2048x2048x8 S2048x2048x8 S8x2048x2048 [3, 2] [2, 1] [0, 1] [0] [] []

variable [Facts]

def dot_S8x2048x2048_S2048x2048_S8x2048x2048_2_1_01_0_n_n : DotDims S8x2048x2048 S2048x2048 S8x2048x2048 where
  lhsContracting := [2]
  rhsContracting := [1]
  lhsNonContracting := [0, 1]
  rhsNonContracting := [0]
  lhsBatch := []
  rhsBatch := []
  wf := dot_S8x2048x2048_S2048x2048_S8x2048x2048_2_1_01_0_n_n_wf
def dot_S8x2048x2048x8_S2048x2048x8_S8x2048x2048_32_21_01_0_n_n : DotDims S8x2048x2048x8 S2048x2048x8 S8x2048x2048 where
  lhsContracting := [3, 2]
  rhsContracting := [2, 1]
  lhsNonContracting := [0, 1]
  rhsNonContracting := [0]
  lhsBatch := []
  rhsBatch := []
  wf := dot_S8x2048x2048x8_S2048x2048x8_S8x2048x2048_32_21_01_0_n_n_wf
def fn_part2 {F : FTy → Type} [FloatOps F] (main_arg4 : FVec F S2048x2048x8 .f32) (main_arg5 : FVec F S16384x2048 .f32) (main_v31 : FVec F S8x2048x2048 .f32) (main_v36 : FVec F S8 .f32) (main_v38 : FVec F S8x2048x2048x1 .f32) : IVec S16384x2048 1 × IVec S16384x2048 1 :=
  let main_v39 : FVec F S1x1x1x8 .f32 := broadcastInDim S1x1x1x8 ![3] bcast_S8_S1x1x1x8_3 main_v36
  let main_v40 : FVec F S8x2048x2048x8 .f32 := broadcastInDim S8x2048x2048x8 ![0, 1, 2, 3] bcast_S8x2048x2048x1_S8x2048x2048x8_0_1_2_3 main_v38
  let main_v41 : FVec F S8x2048x2048x8 .f32 := broadcastInDim S8x2048x2048x8 ![0, 1, 2, 3] bcast_S1x1x1x8_S8x2048x2048x8_0_1_2_3 main_v39
  let main_v42 : FVec F S8x2048x2048x8 .f32 := mulf main_v40 main_v41
  let main_v43 : FVec F S8x2048x2048x8 .f32 := Host.cos main_v42
  let main_v44 : FVec F S8x2048x2048 .f32 := (fun l r => Host.dotGeneral dot_S8x2048x2048x8_S2048x2048x8_S8x2048x2048_32_21_01_0_n_n none l r) main_v43 main_arg4
  let main_v45 : FVec F S8x2048x2048 .f32 := addf main_v31 main_v44
  let main_v46 : FVec F S16384x2048 .f32 := shapeCast S16384x2048 main_v45 shapeCasts_S8x2048x2048_S16384x2048
  let main_v47 : FVec F S2048x2048x8 .f32 := Host.absf main_arg4
  let main_cst_8 : FVec F S_ .f32 := constant S_ .f32 0x00000000#32
  let main_v48 : FVec F S2048 .f32 := (fun x v => Host.reduceAdd x v reducesTo_S2048x2048x8_S2048_d1_2 h_S_) main_v47 main_cst_8
  let main_cst_9 : FVec F S_ .f32 := constant S_ .f32 0x37800000#32
  let main_v49 : FVec F S2048 .f32 := broadcastInDim S2048 ![] bcast_S_S2048 main_cst_9
  let main_v50 : FVec F S2048 .f32 := mulf main_v49 main_v48
  let main_v51 : FVec F S1x2048 .f32 := broadcastInDim S1x2048 ![1] bcast_S2048_S1x2048_1 main_v50
  let main_v52 : FVec F S16384x2048 .f32 := broadcastInDim S16384x2048 ![0, 1] bcast_S1x2048_S16384x2048_0_1 main_v51
  let main_v53 : FVec F S16384x2048 .f32 := addf main_v46 main_v52
  let main_v54 : IVec S16384x2048 1 := cmpf .ole main_arg5 main_v53
  let main_v55 : FVec F S1x2048 .f32 := broadcastInDim S1x2048 ![1] bcast_S2048_S1x2048_1 main_v50
  let main_v56 : FVec F S16384x2048 .f32 := broadcastInDim S16384x2048 ![0, 1] bcast_S1x2048_S16384x2048_0_1 main_v55
  let main_v57 : FVec F S16384x2048 .f32 := addf main_arg5 main_v56
  let main_v58 : IVec S16384x2048 1 := cmpf .ole main_v46 main_v57
  (main_v54, main_v58)

def fn_part1 {F : FTy → Type} [FloatOps F] (main_arg2 : FVec F S2048 .f32) (main_arg3 : FVec F S2048x2048 .f32) (main_arg4 : FVec F S2048x2048x8 .f32) (main_arg5 : FVec F S16384x2048 .f32) (main_v17 : FVec F S8x2048x2048 .f32) (main_v18 : FVec F S1x1x2048 .f32) : IVec S16384x2048 1 × IVec S16384x2048 1 :=
  let main_v19 : FVec F S8x2048x2048 .f32 := broadcastInDim S8x2048x2048 ![0, 1, 2] bcast_S1x1x2048_S8x2048x2048_0_1_2 main_v18
  let main_v20 : FVec F S8x2048x2048 .f32 := mulf main_v17 main_v19
  let main_v21 : FVec F S1x1x2048 .f32 := broadcastInDim S1x1x2048 ![2] bcast_S2048_S1x1x2048_2 main_arg2
  let main_v22 : FVec F S8x2048x2048 .f32 := broadcastInDim S8x2048x2048 ![0, 1, 2] bcast_S1x1x2048_S8x2048x2048_0_1_2 main_v21
  let main_v23 : FVec F S8x2048x2048 .f32 := addf main_v20 main_v22
  let main_v24 : FVec F S8x2048x2048 .f32 := Host.negf main_v23
  let main_v25 : FVec F S8x2048x2048 .f32 := Host.exp main_v24
  let main_cst_4 : FVec F S_ .f32 := constant S_ .f32 0x3F800000#32
  let main_v26 : FVec F S8x2048x2048 .f32 := broadcastInDim S8x2048x2048 ![] bcast_S_S8x2048x2048 main_cst_4
  let main_v27 : FVec F S8x2048x2048 .f32 := addf main_v26 main_v25
  let main_cst_5 : FVec F S_ .f32 := constant S_ .f32 0x3F800000#32
  let main_v28 : FVec F S8x2048x2048 .f32 := broadcastInDim S8x2048x2048 ![] bcast_S_S8x2048x2048 main_cst_5
  let main_v29 : FVec F S8x2048x2048 .f32 := Host.divf main_v28 main_v27
  let main_v30 : FVec F S8x2048x2048 .f32 := mulf main_v23 main_v29
  let main_v31 : FVec F S8x2048x2048 .f32 := (fun l r => Host.dotGeneral dot_S8x2048x2048_S2048x2048_S8x2048x2048_2_1_01_0_n_n none l r) main_v30 main_arg3
  let main_v32 : FVec F S8 .f32 := sitofp .f32 (iotaInDim S8 32 0)
  let main_cst_6 : FVec F S_ .f32 := constant S_ .f32 0x3F800000#32
  let main_v33 : FVec F S8 .f32 := broadcastInDim S8 ![] bcast_S_S8 main_cst_6
  let main_v34 : FVec F S8 .f32 := addf main_v33 main_v32
  let main_cst_7 : FVec F S_ .f32 := constant S_ .f32 0x40490FDB#32
  let main_v35 : FVec F S8 .f32 := broadcastInDim S8 ![] bcast_S_S8 main_cst_7
  let main_v36 : FVec F S8 .f32 := mulf main_v34 main_v35
  let main_v37 : FVec F S8x2048x2048 .f32 := Host.tanh main_v23
  let main_v38 : FVec F S8x2048x2048x1 .f32 := broadcastInDim S8x2048x2048x1 ![0, 1, 2] bcast_S8x2048x2048_S8x2048x2048x1_0_1_2 main_v37
  fn_part2 (F := F) main_arg4 main_arg5 main_v31 main_v36 main_v38

def fn {F : FTy → Type} [FloatOps F] (main_arg0 : FVec F S8x2048x2048 .f32) (main_arg1 : FVec F S2048 .f32) (main_arg2 : FVec F S2048 .f32) (main_arg3 : FVec F S2048x2048 .f32) (main_arg4 : FVec F S2048x2048x8 .f32) (main_arg5 : FVec F S16384x2048 .f32) : IVec S16384x2048 1 × IVec S16384x2048 1 :=
  let main_cst : FVec F S_ .f32 := constant S_ .f32 0x00000000#32
  let main_v0 : FVec F S8x2048 .f32 := (fun x v => Host.reduceAdd x v reducesTo_S8x2048x2048_S8x2048_d2 h_S_) main_arg0 main_cst
  let main_v1 : FVec F S8x2048x1 .f32 := broadcastInDim S8x2048x1 ![0, 1] bcast_S8x2048_S8x2048x1_0_1 main_v0
  let main_cst_0 : FVec F S_ .f32 := constant S_ .f32 0x45000000#32
  let main_v2 : FVec F S8x2048x1 .f32 := broadcastInDim S8x2048x1 ![] bcast_S_S8x2048x1 main_cst_0
  let main_v3 : FVec F S8x2048x1 .f32 := Host.divf main_v1 main_v2
  let main_v4 : FVec F S8x2048x2048 .f32 := broadcastInDim S8x2048x2048 ![0, 1, 2] bcast_S8x2048x1_S8x2048x2048_0_1_2 main_v3
  let main_v5 : FVec F S8x2048x2048 .f32 := subf main_arg0 main_v4
  let main_v6 : FVec F S8x2048x2048 .f32 := mulf main_v5 main_v5
  let main_cst_1 : FVec F S_ .f32 := constant S_ .f32 0x00000000#32
  let main_v7 : FVec F S8x2048 .f32 := (fun x v => Host.reduceAdd x v reducesTo_S8x2048x2048_S8x2048_d2 h_S_) main_v6 main_cst_1
  let main_v8 : FVec F S8x2048x1 .f32 := broadcastInDim S8x2048x1 ![0, 1] bcast_S8x2048_S8x2048x1_0_1 main_v7
  let main_cst_2 : FVec F S_ .f32 := constant S_ .f32 0x45000000#32
  let main_v9 : FVec F S8x2048x1 .f32 := broadcastInDim S8x2048x1 ![] bcast_S_S8x2048x1 main_cst_2
  let main_v10 : FVec F S8x2048x1 .f32 := Host.divf main_v8 main_v9
  let main_v11 : FVec F S8x2048x2048 .f32 := broadcastInDim S8x2048x2048 ![0, 1, 2] bcast_S8x2048x1_S8x2048x2048_0_1_2 main_v3
  let main_v12 : FVec F S8x2048x2048 .f32 := subf main_arg0 main_v11
  let main_cst_3 : FVec F S_ .f32 := constant S_ .f32 0x3727C5AC#32
  let main_v13 : FVec F S8x2048x1 .f32 := broadcastInDim S8x2048x1 ![] bcast_S_S8x2048x1 main_cst_3
  let main_v14 : FVec F S8x2048x1 .f32 := addf main_v10 main_v13
  let main_v15 : FVec F S8x2048x1 .f32 := Host.rsqrt main_v14
  let main_v16 : FVec F S8x2048x2048 .f32 := broadcastInDim S8x2048x2048 ![0, 1, 2] bcast_S8x2048x1_S8x2048x2048_0_1_2 main_v15
  let main_v17 : FVec F S8x2048x2048 .f32 := mulf main_v12 main_v16
  let main_v18 : FVec F S1x1x2048 .f32 := broadcastInDim S1x1x2048 ![2] bcast_S2048_S1x1x2048_2 main_arg1
  fn_part1 (F := F) main_arg2 main_arg3 main_arg4 main_arg5 main_v17 main_v18
-- ==== Pre_finite_x.lean ====
abbrev S8x2048x2048 : Shape := ⟨3, ![8, 2048, 2048]⟩
abbrev S2048 : Shape := ⟨1, ![2048]⟩
abbrev S2048x2048 : Shape := ⟨2, ![2048, 2048]⟩
abbrev S2048x2048x8 : Shape := ⟨3, ![2048, 2048, 8]⟩
abbrev S_ : Shape := ⟨0, ![]⟩

class Facts : Prop where
  bcast_S_S8x2048x2048 : S_.BroadcastsInDim S8x2048x2048 (![] : Fin 0 → Fin S8x2048x2048.rank)

variable [Facts]

def fn {F : FTy → Type} [FloatOps F] (main_arg0 : FVec F S8x2048x2048 .f32) (main_arg1 : FVec F S2048 .f32) (main_arg2 : FVec F S2048 .f32) (main_arg3 : FVec F S2048x2048 .f32) (main_arg4 : FVec F S2048x2048x8 .f32) : IVec S8x2048x2048 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  main_v2
-- ==== Pre_finite_x_spline.lean ====
abbrev S8x2048x2048 : Shape := ⟨3, ![8, 2048, 2048]⟩
abbrev S2048 : Shape := ⟨1, ![2048]⟩
abbrev S2048x2048 : Shape := ⟨2, ![2048, 2048]⟩
abbrev S2048x2048x8 : Shape := ⟨3, ![2048, 2048, 8]⟩
abbrev S_ : Shape := ⟨0, ![]⟩

class Facts : Prop where
  bcast_S_S8x2048x2048 : S_.BroadcastsInDim S8x2048x2048 (![] : Fin 0 → Fin S8x2048x2048.rank)
  bcast_S_S2048x2048x8 : S_.BroadcastsInDim S2048x2048x8 (![] : Fin 0 → Fin S2048x2048x8.rank)

variable [Facts]

def fn {F : FTy → Type} [FloatOps F] (main_arg0 : FVec F S8x2048x2048 .f32) (main_arg1 : FVec F S2048 .f32) (main_arg2 : FVec F S2048 .f32) (main_arg3 : FVec F S2048x2048 .f32) (main_arg4 : FVec F S2048x2048x8 .f32) : IVec S8x2048x2048 1 × IVec S2048x2048x8 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_v3 : FVec F S2048x2048x8 .f32 := Host.absf main_arg4
  let main_cst_0 : FVec F S_ .f32 := constant S_ .f32 0x7F800000#32
  let main_v4 : FVec F S2048x2048x8 .f32 := broadcastInDim S2048x2048x8 ![] bcast_S_S2048x2048x8 main_cst_0
  let main_v5 : IVec S2048x2048x8 1 := cmpf .olt main_v3 main_v4
  (main_v2, main_v5)
-- ==== Kernel.lean ====
abbrev S8x2048x2048 : Shape := ⟨3, ![8, 2048, 2048]⟩
abbrev S2048 : Shape := ⟨1, ![2048]⟩
abbrev S2048x2048 : Shape := ⟨2, ![2048, 2048]⟩
abbrev S2048x2048x8 : Shape := ⟨3, ![2048, 2048, 8]⟩
abbrev S16384x2048 : Shape := ⟨2, ![16384, 2048]⟩
abbrev S1x2048 : Shape := ⟨2, ![1, 2048]⟩
abbrev S512x2048 : Shape := ⟨2, ![512, 2048]⟩
abbrev S2048x256 : Shape := ⟨2, ![2048, 256]⟩
abbrev S16384x256 : Shape := ⟨2, ![16384, 256]⟩
abbrev S512x256 : Shape := ⟨2, ![512, 256]⟩
abbrev S512x16384 : Shape := ⟨2, ![512, 16384]⟩
abbrev S128x2048 : Shape := ⟨2, ![128, 2048]⟩
abbrev S128 : Shape := ⟨1, ![128]⟩
abbrev S128x1 : Shape := ⟨2, ![128, 1]⟩
abbrev S128x256 : Shape := ⟨2, ![128, 256]⟩
abbrev S128x16384 : Shape := ⟨2, ![128, 16384]⟩

abbrev nBuf : Space → Nat
  | .hbm => 14
  | .vmem => 12
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S2048, .f32⟩
  | .hbm, ⟨3, _⟩ => ⟨S2048x2048, .f32⟩
  | .hbm, ⟨4, _⟩ => ⟨S2048x2048x8, .f32⟩
  | .hbm, ⟨5, _⟩ => ⟨S16384x2048, .f32⟩
  | .hbm, ⟨6, _⟩ => ⟨S2048x2048, .f32⟩
  | .hbm, ⟨7, _⟩ => ⟨S2048x2048, .bf16⟩
  | .hbm, ⟨8, _⟩ => ⟨S8x2048x2048, .f32⟩
  | .hbm, ⟨9, _⟩ => ⟨S16384x2048, .f32⟩
  | .hbm, ⟨10, _⟩ => ⟨S16384x2048, .bf16⟩
  | .hbm, ⟨11, _⟩ => ⟨S1x2048, .f32⟩
  | .hbm, ⟨12, _⟩ => ⟨S1x2048, .f32⟩
  | .hbm, ⟨13, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S2048x256, .bf16⟩
  | .local _ .vmem, ⟨5, _⟩ => ⟨S2048x256, .bf16⟩
  | .local _ .vmem, ⟨6, _⟩ => ⟨S16384x256, .bf16⟩
  | .local _ .vmem, ⟨7, _⟩ => ⟨S16384x256, .bf16⟩
  | .local _ .vmem, ⟨8, _⟩ => ⟨S512x256, .f32⟩
  | .local _ .vmem, ⟨9, _⟩ => ⟨S512x256, .f32⟩
  | .local _ .vmem, ⟨10, _⟩ => ⟨S512x2048, .bf16⟩
  | .local _ .vmem, ⟨11, _⟩ => ⟨S512x16384, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S16384x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelCos.lean ====
abbrev S8x2048x2048 : Shape := ⟨3, ![8, 2048, 2048]⟩
abbrev S2048 : Shape := ⟨1, ![2048]⟩
abbrev S2048x2048 : Shape := ⟨2, ![2048, 2048]⟩
abbrev S2048x2048x8 : Shape := ⟨3, ![2048, 2048, 8]⟩
abbrev S16384x2048 : Shape := ⟨2, ![16384, 2048]⟩
abbrev S1x2048 : Shape := ⟨2, ![1, 2048]⟩
abbrev S512x2048 : Shape := ⟨2, ![512, 2048]⟩
abbrev S2048x256 : Shape := ⟨2, ![2048, 256]⟩
abbrev S16384x256 : Shape := ⟨2, ![16384, 256]⟩
abbrev S512x256 : Shape := ⟨2, ![512, 256]⟩
abbrev S512x16384 : Shape := ⟨2, ![512, 16384]⟩
abbrev S128x2048 : Shape := ⟨2, ![128, 2048]⟩
abbrev S128 : Shape := ⟨1, ![128]⟩
abbrev S128x1 : Shape := ⟨2, ![128, 1]⟩
abbrev S128x256 : Shape := ⟨2, ![128, 256]⟩
abbrev S128x16384 : Shape := ⟨2, ![128, 16384]⟩

abbrev nBuf : Space → Nat
  | .hbm => 14
  | .vmem => 12
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S2048, .f32⟩
  | .hbm, ⟨3, _⟩ => ⟨S2048x2048, .f32⟩
  | .hbm, ⟨4, _⟩ => ⟨S2048x2048x8, .f32⟩
  | .hbm, ⟨5, _⟩ => ⟨S16384x2048, .f32⟩
  | .hbm, ⟨6, _⟩ => ⟨S2048x2048, .f32⟩
  | .hbm, ⟨7, _⟩ => ⟨S2048x2048, .bf16⟩
  | .hbm, ⟨8, _⟩ => ⟨S8x2048x2048, .f32⟩
  | .hbm, ⟨9, _⟩ => ⟨S16384x2048, .f32⟩
  | .hbm, ⟨10, _⟩ => ⟨S16384x2048, .bf16⟩
  | .hbm, ⟨11, _⟩ => ⟨S1x2048, .f32⟩
  | .hbm, ⟨12, _⟩ => ⟨S1x2048, .f32⟩
  | .hbm, ⟨13, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S2048x256, .bf16⟩
  | .local _ .vmem, ⟨5, _⟩ => ⟨S2048x256, .bf16⟩
  | .local _ .vmem, ⟨6, _⟩ => ⟨S16384x256, .bf16⟩
  | .local _ .vmem, ⟨7, _⟩ => ⟨S16384x256, .bf16⟩
  | .local _ .vmem, ⟨8, _⟩ => ⟨S512x256, .f32⟩
  | .local _ .vmem, ⟨9, _⟩ => ⟨S512x256, .f32⟩
  | .local _ .vmem, ⟨10, _⟩ => ⟨S512x2048, .bf16⟩
  | .local _ .vmem, ⟨11, _⟩ => ⟨S512x16384, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S16384x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelOne.lean ====
abbrev S8x2048x2048 : Shape := ⟨3, ![8, 2048, 2048]⟩
abbrev S2048 : Shape := ⟨1, ![2048]⟩
abbrev S2048x2048 : Shape := ⟨2, ![2048, 2048]⟩
abbrev S2048x2048x8 : Shape := ⟨3, ![2048, 2048, 8]⟩
abbrev S16384x2048 : Shape := ⟨2, ![16384, 2048]⟩
abbrev S18432x2048 : Shape := ⟨2, ![18432, 2048]⟩
abbrev S1x2048 : Shape := ⟨2, ![1, 2048]⟩
abbrev S512x2048 : Shape := ⟨2, ![512, 2048]⟩
abbrev S18432x256 : Shape := ⟨2, ![18432, 256]⟩
abbrev S512x256 : Shape := ⟨2, ![512, 256]⟩
abbrev S512x18432 : Shape := ⟨2, ![512, 18432]⟩
abbrev S128x2048 : Shape := ⟨2, ![128, 2048]⟩
abbrev S128 : Shape := ⟨1, ![128]⟩
abbrev S128x1 : Shape := ⟨2, ![128, 1]⟩

abbrev nBuf : Space → Nat
  | .hbm => 14
  | .vmem => 9
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S2048, .f32⟩
  | .hbm, ⟨3, _⟩ => ⟨S2048x2048, .f32⟩
  | .hbm, ⟨4, _⟩ => ⟨S2048x2048x8, .f32⟩
  | .hbm, ⟨5, _⟩ => ⟨S16384x2048, .f32⟩
  | .hbm, ⟨6, _⟩ => ⟨S2048x2048, .f32⟩
  | .hbm, ⟨7, _⟩ => ⟨S8x2048x2048, .f32⟩
  | .hbm, ⟨8, _⟩ => ⟨S16384x2048, .f32⟩
  | .hbm, ⟨9, _⟩ => ⟨S18432x2048, .f32⟩
  | .hbm, ⟨10, _⟩ => ⟨S18432x2048, .bf16⟩
  | .hbm, ⟨11, _⟩ => ⟨S1x2048, .f32⟩
  | .hbm, ⟨12, _⟩ => ⟨S1x2048, .f32⟩
  | .hbm, ⟨13, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S18432x256, .bf16⟩
  | .local _ .vmem, ⟨5, _⟩ => ⟨S18432x256, .bf16⟩
  | .local _ .vmem, ⟨6, _⟩ => ⟨S512x256, .f32⟩
  | .local _ .vmem, ⟨7, _⟩ => ⟨S512x256, .f32⟩
  | .local _ .vmem, ⟨8, _⟩ => ⟨S512x18432, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S18432x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference.lean ====
abbrev S8x2048x2048 : Shape := ⟨3, ![8, 2048, 2048]⟩
abbrev S2048 : Shape := ⟨1, ![2048]⟩
abbrev S2048x2048 : Shape := ⟨2, ![2048, 2048]⟩
abbrev S2048x2048x8 : Shape := ⟨3, ![2048, 2048, 8]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S8 : Shape := ⟨1, ![8]⟩
abbrev S8x2048x2048x1 : Shape := ⟨4, ![8, 2048, 2048, 1]⟩
abbrev S1x1x1x8 : Shape := ⟨4, ![1, 1, 1, 8]⟩
abbrev S8x2048x2048x8 : Shape := ⟨4, ![8, 2048, 2048, 8]⟩
abbrev S16384x2048 : Shape := ⟨2, ![16384, 2048]⟩

abbrev nBuf : Space → Nat
  | .hbm => 61
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S2048, .f32⟩
  | .hbm, ⟨3, _⟩ => ⟨S2048x2048, .f32⟩
  | .hbm, ⟨4, _⟩ => ⟨S2048x2048x8, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S8x2048x2048, .f32⟩
  | .hbm, ⟨12, _⟩ => ⟨S8x2048x2048, .f32⟩
  | .hbm, ⟨13, _⟩ => ⟨S8x2048x2048, .f32⟩
  | .hbm, ⟨14, _⟩ => ⟨S_, .f32⟩
  | .hbm, ⟨15, _⟩ => ⟨S8x2048, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S8x2048x2048, .f32⟩
  | .hbm, ⟨21, _⟩ => ⟨S8x2048x2048, .f32⟩
  | .hbm, ⟨22, _⟩ => ⟨S_, .f32⟩
  | .hbm, ⟨23, _⟩ => ⟨S8x2048x1, .f32⟩
  | .hbm, ⟨24, _⟩ => ⟨S8x2048x1, .f32⟩
  | .hbm, ⟨25, _⟩ => ⟨S8x2048x1, .f32⟩
  | .hbm, ⟨26, _⟩ => ⟨S8x2048x2048, .f32⟩
  | .hbm, ⟨27, _⟩ => ⟨S8x2048x2048, .f32⟩
  | .hbm, ⟨28, _⟩ => ⟨S1x1x2048, .f32⟩
  | .hbm, ⟨29, _⟩ => ⟨S8x2048x2048, .f32⟩
  | .hbm, ⟨30, _⟩ => ⟨S8x2048x2048, .f32⟩
  | .hbm, ⟨31, _⟩ => ⟨S1x1x2048, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S8x2048x2048, .f32⟩
  | .hbm, ⟨38, _⟩ => ⟨S8x2048x2048, .f32⟩
  | .hbm, ⟨39, _⟩ => ⟨S_, .f32⟩
  | .hbm, ⟨40, _⟩ => ⟨S8x2048x2048, .f32⟩
  | .hbm, ⟨41, _⟩ => ⟨S8x2048x2048, .f32⟩
  | .hbm, ⟨42, _⟩ => ⟨S8x2048x2048, .f32⟩
  | .hbm, ⟨43, _⟩ => ⟨S8x2048x2048, .f32⟩
  | .hbm, ⟨44, _⟩ => ⟨S8x2048x2048, .f32⟩
  | .hbm, ⟨45, _⟩ => ⟨S8, .f32⟩
  | .hbm, ⟨46, _⟩ => ⟨S_, .f32⟩
  | .hbm, ⟨47, _⟩ => ⟨S8, .f32⟩
  | .hbm, ⟨48, _⟩ => ⟨S8, .f32⟩
  | .hbm, ⟨49, _⟩ => ⟨S_, .f32⟩
  | .hbm, ⟨50, _⟩ => ⟨S8, .f32⟩
  | .hbm, ⟨51, _⟩ => ⟨S8, .f32⟩
  | .hbm, ⟨52, _⟩ => ⟨S8x2048x2048x1, .f32⟩
  | .hbm, ⟨53, _⟩ => ⟨S1x1x1x8, .f32⟩
  | .hbm, ⟨54, _⟩ => ⟨S8x2048x2048x8, .f32⟩
  | .hbm, ⟨55, _⟩ => ⟨S8x2048x2048x8, .f32⟩
  | .hbm, ⟨56, _⟩ => ⟨S8x2048x2048x8, .f32⟩
  | .hbm, ⟨57, _⟩ => ⟨S8x2048x2048x8, .f32⟩
  | .hbm, ⟨58, _⟩ => ⟨S8x2048x2048, .f32⟩
  | .hbm, ⟨59, _⟩ => ⟨S8x2048x2048, .f32⟩
  | .hbm, ⟨60, _⟩ => ⟨S16384x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== Proof.Spec.lean ====
/-
  The layer's mathematics, one row at a time, over the extended reals.

  A row `f` of 2048 numbers is normalised with weights `w` and biases `b`, and each normalised number `z` is turned into
  nine features: `z` times its logistic, and eight cosines. The features are contracted with the weights of one output.
  The kernel takes the variance as the mean of the squares less the square of the mean (`spreadOne`) and obtains the
  cosines of the multiples of an angle from the first by the three-term recurrence (`cheb`).
-/
module

public import Idealize.ShloMosaic.Lib.Pointwise

@[expose] public section

noncomputable section

namespace Cert.Kan

open Idealize.ShloMosaic

/-- The mean of a row: its sum divided by 2048. -/
def avg (f : Fin 2048 → EReal) : EReal := Ideal.div (∑ i, f i) (Ideal.ofBits .f32 0x45000000#32)

/-- The variance as the mean of the squares less the square of the mean. -/
def spreadOne (f : Fin 2048 → EReal) : EReal := avg (fun i => f i * f i) - avg f * avg f

/-- The variance as the mean of the squared deviations. -/
def spreadTwo (f : Fin 2048 → EReal) : EReal := avg (fun i => (f i - avg f) * (f i - avg f))

/-- The normalised row, from a variance `v`. -/
def normed (v : EReal) (f w b : Fin 2048 → EReal) (l : Fin 2048) : EReal :=
  (f l - avg f) * Ideal.rsqrt (v + Ideal.ofBits .f32 0x3727C5AC#32) * w l + b l

/-- The base feature. -/
def silu (z : EReal) : EReal := z * Ideal.logistic z

/-- The cosines of the multiples of an angle from the cosine `c` of the angle: `cheb k c` is that of the `k+1`-st multiple. -/
def cheb : ℕ → EReal → EReal
  | 0, c => c
  | 1, c => Ideal.ofBits .f32 0x40000000#32 * c * c - Ideal.ofBits .f32 0x3F800000#32
  | k + 2, c => Ideal.ofBits .f32 0x40000000#32 * c * cheb (k + 1) c - cheb k c

/-- The first cosine feature: the cosine of the rounded `pi` times the hyperbolic tangent. -/
def cosPi (z : EReal) : EReal := Ideal.cos (Ideal.ofBits .f32 0x40490FDB#32 * Ideal.tanh z)

/-- The first cosine feature as the kernel takes it: a polynomial in the square of the hyperbolic tangent. -/
def polyPi (z : EReal) : EReal :=
  (((((Ideal.ofBits .f32 0x3AD26B69#32 * (Ideal.tanh z * Ideal.tanh z) + Ideal.ofBits .f32 0xBCD00115#32)
    * (Ideal.tanh z * Ideal.tanh z) + Ideal.ofBits .f32 0x3E70B476#32)
    * (Ideal.tanh z * Ideal.tanh z) + Ideal.ofBits .f32 0xBFAAE6FF#32)
    * (Ideal.tanh z * Ideal.tanh z) + Ideal.ofBits .f32 0x4081E0DB#32)
    * (Ideal.tanh z * Ideal.tanh z) + Ideal.ofBits .f32 0xC09DE9E5#32)
    * (Ideal.tanh z * Ideal.tanh z) + Ideal.ofBits .f32 0x3F800000#32

end Cert.Kan

end
-- ==== Proof.Chunk.lean ====
/-
  What one grid point of the kernel (in the form that takes the cosine) leaves in its two scratch buffers and in its
  output block, read at an index.
-/
module

public import proofs.«01_k».proof.Proof.Gen.KernelCosIdeal.Value
public import proofs.«01_k».proof.Proof.Spec
public import Idealize.ShloMosaic.Lib.Pipeline.ReadBack

@[expose] public section

set_option maxRecDepth 16384

noncomputable section

namespace Cert.KernelCosIdeal.Val

open Cert.KernelCosIdeal Cert.KernelCosIdeal.Gen Idealize.ShloMosaic Idealize.ShloMosaic.TcCoe Idealize.SL.Sem
open Cert.Kan

/-- The normalised number at row `r`, column `l` of a block of 512 rows. -/
def zed (X : Vec Ideal S512x2048 .f32) (w b : Vec Ideal S1x2048 .f32) (r : Fin 512) (l : Fin 2048) : EReal :=
  normed (spreadOne fun i => X (ix2 r i)) (fun i => X (ix2 r i)) (fun i => w (ix2 0 i)) (fun i => b (ix2 0 i)) l

/-- The base features of a block of 512 rows. -/
def feat0 (X : Vec Ideal S512x2048 .f32) (w b : Vec Ideal S1x2048 .f32) : Vec Ideal S512x2048 .bf16 := fun y =>
  silu (zed X w b (y 0) (y 1))

/-- The cosine features of a block of 512 rows: column `2048 k + l` is multiple `k+1` at column `l`. The first multiple is
    taken by `C`, which is the cosine itself here and a polynomial in the kernel as it is written. -/
def feat1 (C : EReal → EReal) (X : Vec Ideal S512x2048 .f32) (w b : Vec Ideal S1x2048 .f32) : Vec Ideal S512x16384 .bf16 := fun y =>
  cheb ((y 1).val / 2048) (C (zed X w b (y 0) ⟨(y 1).val % 2048, Nat.mod_lt _ (by decide)⟩))

/-- The normalised number at row `r`, column `l` of a chunk of 128 rows. -/
theorem pay2_ix2 (x : Vec Ideal S128x2048 .f32) (w b : Vec Ideal S1x2048 .f32) (r : Fin 128) (l : Fin 2048) :
    k0_pay2 (F := Ideal) x w b (ix2 r l) = normed (spreadOne fun i => x (ix2 r i)) (fun i => x (ix2 r i))
      (fun i => w (ix2 0 i)) (fun i => b (ix2 0 i)) l := by
  pointwise [k0_pay2]
  rfl

theorem pay2_apply (x : Vec Ideal S128x2048 .f32) (w b : Vec Ideal S1x2048 .f32) (j : S128x2048.Idx) :
    k0_pay2 (F := Ideal) x w b j = normed (spreadOne fun i => x (ix2 (j 0) i)) (fun i => x (ix2 (j 0) i))
      (fun i => w (ix2 0 i)) (fun i => b (ix2 0 i)) (j 1) :=
  (congrArg _ (by funext a; match a with | ⟨0, _⟩ => rfl | ⟨1, _⟩ => rfl)).trans (pay2_ix2 x w b (j 0) (j 1))

/-- The chunk of 128 rows from row `r` on, of a block of 512 rows. -/
abbrev rows (r : ℕ) (inb : ∀ a, (![r, 0] : Fin 2 → ℕ) a + S128x2048.size a ≤ S512x2048.size a) : Rect S512x2048 :=
  Rect.unit ![r, 0] S128x2048.size inb

/-- The place of multiple `k+1` of the chunk of 128 rows from row `r` on, in the block of cosine features. -/
abbrev tile (r k : ℕ) (inb : ∀ a, (![r, 2048 * k] : Fin 2 → ℕ) a + S128x2048.size a ≤ S512x16384.size a) : Rect S512x16384 :=
  Rect.unit ![r, 2048 * k] S128x2048.size inb

/-- A chunk's normalised numbers are its block's. -/
theorem chunk_zed (X : Vec Ideal S512x2048 .f32) (w b : Vec Ideal S1x2048 .f32) (r : ℕ)
    (inb : ∀ a, (![r, 0] : Fin 2 → ℕ) a + S128x2048.size a ≤ S512x2048.size a) (x : S128x2048.Idx) :
    k0_pay2 (F := Ideal) (View.ld X (rows r inb)) w b x
      = zed X w b ((rows r inb).emb x 0) (x 1) := by
  have h : ∀ k : Fin 2048, View.ld X (rows r inb) (ix2 (x 0) k)
      = X (ix2 ((rows r inb).emb x 0) k) := fun k =>
    congrArg X (funext fun a => Fin.ext (by
      match a with
      | ⟨0, _⟩ => rfl
      | ⟨1, _⟩ => show 0 + 1 * k.val = k.val; omega))
  rw [pay2_apply]
  unfold zed
  simp only [h]

/-- A chunk's stored base features are its block's. -/
theorem base_piece (X : Vec Ideal S512x2048 .f32) (w b : Vec Ideal S1x2048 .f32) (r : ℕ)
    (inb : ∀ a, (![r, 0] : Fin 2 → ℕ) a + S128x2048.size a ≤ S512x2048.size a) (x : S128x2048.Idx) :
    k0_pay3 (F := Ideal) (View.ld X (rows r inb)) w b x
      = feat0 X w b ((rows r inb).emb x) := by
  have h : (rows r inb).emb x 1 = x 1 := Fin.ext (by
    show 0 + 1 * (x 1).val = (x 1).val; omega)
  unfold feat0
  rw [h, ← chunk_zed]
  unfold k0_pay3
  rw [shapeCast_self]
  rfl

/-- A stored piece that holds multiple `k+1` of its chunk holds that of its block. -/
theorem cos_piece (C : EReal → EReal) (X : Vec Ideal S512x2048 .f32) (w b : Vec Ideal S1x2048 .f32) (r k : ℕ)
    (inb : ∀ a, (![r, 0] : Fin 2 → ℕ) a + S128x2048.size a ≤ S512x2048.size a)
    (inb' : ∀ a, (![r, 2048 * k] : Fin 2 → ℕ) a + S128x2048.size a ≤ S512x16384.size a) (p : Vec Ideal S128x2048 .bf16)
    (hp : ∀ x, p x = cheb k (C (k0_pay2 (F := Ideal) (View.ld X (rows r inb)) w b x))) (x : S128x2048.Idx) :
    p x = feat1 C X w b ((tile r k inb').emb x) := by
  rw [hp x]
  have hx : (x 1).val < 2048 := (x 1).isLt
  have h : ((tile r k inb').emb x 1).val = 2048 * k + (x 1).val := by
    show 2048 * k + 1 * (x 1).val = _; omega
  have h0 : (tile r k inb').emb x 0 = (rows r inb).emb x 0 := rfl
  unfold feat1
  rw [h0]
  simp only [h]
  rw [show (2048 * k + (x 1).val) / 2048 = k by omega]
  have h1 : (⟨(2048 * k + (x 1).val) % 2048, Nat.mod_lt _ (by decide)⟩ : Fin 2048) = x 1 := Fin.ext (by
    show (2048 * k + (x 1).val) % 2048 = _; omega)
  rw [h1, ← chunk_zed]

/-- The eight stored multiples of a chunk, in terms of its normalised numbers. -/
theorem store0 (x : Vec Ideal S128x2048 .f32) (w b : Vec Ideal S1x2048 .f32) (j : S128x2048.Idx) :
    k0_pay5 (F := Ideal) x w b j = cheb 0 (cosPi (k0_pay2 (F := Ideal) x w b j)) := by
  unfold k0_pay5; rw [shapeCast_self]; rfl
theorem store1 (x : Vec Ideal S128x2048 .f32) (w b : Vec Ideal S1x2048 .f32) (j : S128x2048.Idx) :
    k0_pay8 (F := Ideal) (k0_pay4 x w b) j = cheb 1 (cosPi (k0_pay2 (F := Ideal) x w b j)) := by
  unfold k0_pay8; rw [shapeCast_self]; rfl
theorem store2 (x : Vec Ideal S128x2048 .f32) (w b : Vec Ideal S1x2048 .f32) (j : S128x2048.Idx) :
    k0_pay10 (F := Ideal) (k0_pay4 x w b) j = cheb 2 (cosPi (k0_pay2 (F := Ideal) x w b j)) := by
  unfold k0_pay10; rw [shapeCast_self]; rfl
theorem store3 (x : Vec Ideal S128x2048 .f32) (w b : Vec Ideal S1x2048 .f32) (j : S128x2048.Idx) :
    k0_pay12 (F := Ideal) (k0_pay4 x w b) j = cheb 3 (cosPi (k0_pay2 (F := Ideal) x w b j)) := by
  unfold k0_pay12; rw [shapeCast_self]; rfl
theorem store4 (x : Vec Ideal S128x2048 .f32) (w b : Vec Ideal S1x2048 .f32) (j : S128x2048.Idx) :
    k0_pay14 (F := Ideal) (k0_pay4 x w b) j = cheb 4 (cosPi (k0_pay2 (F := Ideal) x w b j)) := by
  unfold k0_pay14; rw [shapeCast_self]; rfl
theorem store5 (x : Vec Ideal S128x2048 .f32) (w b : Vec Ideal S1x2048 .f32) (j : S128x2048.Idx) :
    k0_pay16 (F := Ideal) (k0_pay4 x w b) j = cheb 5 (cosPi (k0_pay2 (F := Ideal) x w b j)) := by
  unfold k0_pay16; rw [shapeCast_self]; rfl
theorem store6 (x : Vec Ideal S128x2048 .f32) (w b : Vec Ideal S1x2048 .f32) (j : S128x2048.Idx) :
    k0_pay18 (F := Ideal) (k0_pay4 x w b) j = cheb 6 (cosPi (k0_pay2 (F := Ideal) x w b j)) := by
  unfold k0_pay18; rw [shapeCast_self]; rfl
theorem store7 (x : Vec Ideal S128x2048 .f32) (w b : Vec Ideal S1x2048 .f32) (j : S128x2048.Idx) :
    k0_pay20 (F := Ideal) (k0_pay15 (k0_pay4 x w b)) (k0_pay19 (k0_pay4 x w b)) j
      = cheb 7 (cosPi (k0_pay2 (F := Ideal) x w b j)) := by
  unfold k0_pay20; rw [shapeCast_self]; rfl

/-- The eight stored pieces of a chunk are its block's cosine features. -/
theorem chunk_pieces (X : Vec Ideal S512x2048 .f32) (w b : Vec Ideal S1x2048 .f32) (r : ℕ)
    (inb : ∀ a, (![r, 0] : Fin 2 → ℕ) a + S128x2048.size a ≤ S512x2048.size a)
    (h : ∀ k : Fin 8, ∀ a, (![r, 2048 * k.val] : Fin 2 → ℕ) a + S128x2048.size a ≤ S512x16384.size a)
    (L : List (View.Piece (Elt Ideal) S512x16384 .bf16)) (hL : View.PiecesOf (feat1 cosPi X w b) L) :
    View.PiecesOf (feat1 cosPi X w b)
      (⟨tile r 7 (h 7), k0_pay20 (F := Ideal) (k0_pay15 (k0_pay4 (View.ld X (rows r inb)) w b)) (k0_pay19 (k0_pay4 (View.ld X (rows r inb)) w b))⟩
      :: ⟨tile r 6 (h 6), k0_pay18 (F := Ideal) (k0_pay4 (View.ld X (rows r inb)) w b)⟩
      :: ⟨tile r 5 (h 5), k0_pay16 (F := Ideal) (k0_pay4 (View.ld X (rows r inb)) w b)⟩
      :: ⟨tile r 4 (h 4), k0_pay14 (F := Ideal) (k0_pay4 (View.ld X (rows r inb)) w b)⟩
      :: ⟨tile r 3 (h 3), k0_pay12 (F := Ideal) (k0_pay4 (View.ld X (rows r inb)) w b)⟩
      :: ⟨tile r 2 (h 2), k0_pay10 (F := Ideal) (k0_pay4 (View.ld X (rows r inb)) w b)⟩
      :: ⟨tile r 1 (h 1), k0_pay8 (F := Ideal) (k0_pay4 (View.ld X (rows r inb)) w b)⟩
      :: ⟨tile r 0 (h 0), k0_pay5 (F := Ideal) (View.ld X (rows r inb)) w b⟩ :: L) :=
  ⟨cos_piece cosPi X w b r 7 inb (h 7) _ (store7 _ w b), cos_piece cosPi X w b r 6 inb (h 6) _ (store6 _ w b),
    cos_piece cosPi X w b r 5 inb (h 5) _ (store5 _ w b), cos_piece cosPi X w b r 4 inb (h 4) _ (store4 _ w b),
    cos_piece cosPi X w b r 3 inb (h 3) _ (store3 _ w b), cos_piece cosPi X w b r 2 inb (h 2) _ (store2 _ w b),
    cos_piece cosPi X w b r 1 inb (h 1) _ (store1 _ w b), cos_piece cosPi X w b r 0 inb (h 0) _ (store0 _ w b), hL⟩

/-- The rows of a chunk, all columns of the block of cosine features. -/
abbrev wide (r : ℕ) (inb : ∀ a, (![r, 0] : Fin 2 → ℕ) a + S128x16384.size a ≤ S512x16384.size a) : Rect S512x16384 :=
  Rect.unit ![r, 0] S128x16384.size inb

/-- A load of a chunk's base features, after they are stored. -/
theorem load0 (v : Memref sig .tc .vmem S512x2048 .bf16) (G : Vec Ideal S512x2048 .bf16) (r : ℕ)
    (inb : ∀ a, (![r, 0] : Fin 2 → ℕ) a + S128x2048.size a ≤ S512x2048.size a)
    (f : (rows r inb).shape.Idx → Elt Ideal .bf16) (L : List (View.Piece (Elt Ideal) S512x2048 .bf16))
    (hL : View.PiecesOf G (⟨rows r inb, f⟩ :: L)) :
    v.view.readCov (⟨rows r inb, f⟩ :: L) (rows r inb).toLoadRect = View.ld G (rows r inb) := by
  rw [View.readCov_eq_canon']
  funext j
  exact View.canon_apply_of_pieces G _ hL.mem _ ⟨_, List.mem_cons_self, (rows r inb).idx_mem j⟩

/-- A load of a chunk's cosine features, after they are stored. -/
theorem load1 (v : Memref sig .tc .vmem S512x16384 .bf16) (G : Vec Ideal S512x16384 .bf16) (r : ℕ)
    (inb : ∀ a, (![r, 0] : Fin 2 → ℕ) a + S128x16384.size a ≤ S512x16384.size a)
    (h : ∀ k : Fin 8, ∀ a, (![r, 2048 * k.val] : Fin 2 → ℕ) a + S128x2048.size a ≤ S512x16384.size a)
    (f0 f1 f2 f3 f4 f5 f6 f7 : S128x2048.Idx → Elt Ideal .bf16) (L : List (View.Piece (Elt Ideal) S512x16384 .bf16))
    (hL : View.PiecesOf G (⟨tile r 7 (h 7), f7⟩ :: ⟨tile r 6 (h 6), f6⟩ :: ⟨tile r 5 (h 5), f5⟩ :: ⟨tile r 4 (h 4), f4⟩
      :: ⟨tile r 3 (h 3), f3⟩ :: ⟨tile r 2 (h 2), f2⟩ :: ⟨tile r 1 (h 1), f1⟩ :: ⟨tile r 0 (h 0), f0⟩ :: L)) :
    v.view.readCov (⟨tile r 7 (h 7), f7⟩ :: ⟨tile r 6 (h 6), f6⟩ :: ⟨tile r 5 (h 5), f5⟩ :: ⟨tile r 4 (h 4), f4⟩
      :: ⟨tile r 3 (h 3), f3⟩ :: ⟨tile r 2 (h 2), f2⟩ :: ⟨tile r 1 (h 1), f1⟩ :: ⟨tile r 0 (h 0), f0⟩ :: L) (wide r inb).toLoadRect
      = View.ld G (wide r inb) := by
  rw [View.readCov_eq_canon']
  funext j
  refine View.canon_apply_of_pieces G _ hL.mem _ ?_
  have h0 : (j 0).val < 128 := (j 0).isLt
  have h1 : (j 1).val < 16384 := (j 1).isLt
  have hm : ∀ k : Fin 8, (j 1).val / 2048 = k.val → (wide r inb).idx j ∈ (tile r k.val (h k)).set := by
    intro k hk
    rw [Rect.mem_set_unit]
    intro a
    match a with
    | ⟨0, _⟩ => show r ≤ r + 1 * (j 0).val ∧ r + 1 * (j 0).val < r + 128; omega
    | ⟨1, _⟩ => show 2048 * k.val ≤ 0 + 1 * (j 1).val ∧ 0 + 1 * (j 1).val < 2048 * k.val + 2048; omega
  have hq : (j 1).val / 2048 = 0 ∨ (j 1).val / 2048 = 1 ∨ (j 1).val / 2048 = 2 ∨ (j 1).val / 2048 = 3 ∨ (j 1).val / 2048 = 4
      ∨ (j 1).val / 2048 = 5 ∨ (j 1).val / 2048 = 6 ∨ (j 1).val / 2048 = 7 := by omega
  rcases hq with e | e | e | e | e | e | e | e
  · exact ⟨⟨tile r 0 (h 0), f0⟩, by simp only [List.mem_cons, true_or, or_true], hm 0 e⟩
  · exact ⟨⟨tile r 1 (h 1), f1⟩, by simp only [List.mem_cons, true_or, or_true], hm 1 e⟩
  · exact ⟨⟨tile r 2 (h 2), f2⟩, by simp only [List.mem_cons, true_or, or_true], hm 2 e⟩
  · exact ⟨⟨tile r 3 (h 3), f3⟩, by simp only [List.mem_cons, true_or, or_true], hm 3 e⟩
  · exact ⟨⟨tile r 4 (h 4), f4⟩, by simp only [List.mem_cons, true_or, or_true], hm 4 e⟩
  · exact ⟨⟨tile r 5 (h 5), f5⟩, by simp only [List.mem_cons, true_or, or_true], hm 5 e⟩
  · exact ⟨⟨tile r 6 (h 6), f6⟩, by simp only [List.mem_cons, true_or, or_true], hm 6 e⟩
  · exact ⟨⟨tile r 7 (h 7), f7⟩, by simp only [List.mem_cons, true_or, or_true], hm 7 e⟩

/-- The output block: both kinds of features contracted with the weights of the block's columns. -/
def tileOut (f : Vec Ideal S512x2048 .bf16) (W : Vec Ideal S2048x256 .bf16) (g : Vec Ideal S512x16384 .bf16)
    (S : Vec Ideal S16384x256 .bf16) : Vec Ideal S512x256 .f32 := fun y =>
  ((∑ i : Fin 2048, f (ix2 (y 0) i) * W (ix2 i (y 1)) : EReal) + (∑ n : Fin 16384, g (ix2 (y 0) n) * S (ix2 n (y 1)) : EReal) : EReal)

theorem pay1_apply (f : Vec Ideal S512x2048 .bf16) (W : Vec Ideal S2048x256 .bf16) (g : Vec Ideal S512x16384 .bf16)
    (S : Vec Ideal S16384x256 .bf16) : k0_pay1 (F := Ideal) f W g S = tileOut f W g S := by
  funext y
  refine (congrArg _ (show y = ix2 (y 0) (y 1) by funext a; match a with | ⟨0, _⟩ => rfl | ⟨1, _⟩ => rfl)).trans ?_
  unfold tileOut
  generalize y 0 = r
  generalize y 1 = l
  pointwise [k0_pay1]

theorem pay21_ix2 (f : Vec Ideal S128x2048 .bf16) (W : Vec Ideal S2048x256 .bf16) (g : Vec Ideal S128x16384 .bf16)
    (S : Vec Ideal S16384x256 .bf16) (r : Fin 128) (l : Fin 256) : k0_pay21 (F := Ideal) f W g S (ix2 r l)
      = ((∑ i : Fin 2048, f (ix2 r i) * W (ix2 i l) : EReal) + (∑ n : Fin 16384, g (ix2 r n) * S (ix2 n l) : EReal) : EReal) := by
  pointwise [k0_pay21]

/-- A chunk's stored outputs are its block's. -/
theorem out_piece (f : Vec Ideal S512x2048 .bf16) (W : Vec Ideal S2048x256 .bf16) (g : Vec Ideal S512x16384 .bf16)
    (S : Vec Ideal S16384x256 .bf16) (r : ℕ)
    (inb0 : ∀ a, (![r, 0] : Fin 2 → ℕ) a + S128x2048.size a ≤ S512x2048.size a)
    (inb1 : ∀ a, (![r, 0] : Fin 2 → ℕ) a + S128x16384.size a ≤ S512x16384.size a)
    (inb : ∀ a, (![r, 0] : Fin 2 → ℕ) a + S128x256.size a ≤ S512x256.size a)
    (f' : Vec Ideal S128x2048 .bf16) (g' : Vec Ideal S128x16384 .bf16)
    (hf : f' = View.ld f (rows r inb0)) (hg : g' = View.ld g (wide r inb1)) (x : S128x256.Idx) :
    k0_pay21 (F := Ideal) f' W g' S x = tileOut f W g S ((Rect.unit (s := S512x256) ![r, 0] S128x256.size inb).emb x) := by
  subst hf hg
  refine (congrArg _ (show x = ix2 (x 0) (x 1) by funext a; match a with | ⟨0, _⟩ => rfl | ⟨1, _⟩ => rfl)).trans ?_
  refine (pay21_ix2 _ W _ S (x 0) (x 1)).trans ?_
  unfold tileOut
  have e1 : (Rect.unit (s := S512x256) ![r, 0] S128x256.size inb).emb x 1 = x 1 := Fin.ext (by
    show 0 + 1 * (x 1).val = (x 1).val; omega)
  rw [e1]
  refine congrArg₂ (· + ·) (Finset.sum_congr rfl fun k _ => congrArg (· * _) (congrArg f (funext fun a => Fin.ext ?_)))
    (Finset.sum_congr rfl fun k _ => congrArg (· * _) (congrArg g (funext fun a => Fin.ext ?_)))
  · match a with
    | ⟨0, _⟩ => rfl
    | ⟨1, _⟩ => show 0 + 1 * k.val = k.val; omega
  · match a with
    | ⟨0, _⟩ => rfl
    | ⟨1, _⟩ => show 0 + 1 * k.val = k.val; omega

variable (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S2048x256 .bf16) (harg5 : arg5.IsWhole) (arg6 : Memref sig .tc .vmem S16384x256 .bf16) (harg6 : arg6.IsWhole) (arg7 : Memref sig .tc .vmem S512x256 .f32) (harg7 : arg7.IsWhole) (arg8 : Memref sig .tc .vmem S512x2048 .bf16) (harg8 : arg8.IsWhole) (arg9 : Memref sig .tc .vmem S512x16384 .bf16) (harg9 : arg9.IsWhole) (hc0 : cond0_0 i) (hc1 : ¬cond0_1 i)
    (x0 : Vec Ideal S512x2048 .f32) (x1 : Vec Ideal S1x2048 .f32) (x2 : Vec Ideal S1x2048 .f32) (x3 : Vec Ideal S2048x256 .bf16) (x4 : Vec Ideal S16384x256 .bf16)

theorem sout0_A_0_eq : sout0_A_0 c i arg2 harg2 arg3 harg3 arg4 harg4 arg5 harg5 arg6 harg6 arg7 harg7 arg8 harg8 arg9 harg9 hc0 hc1 x0 x1 x2 x3 x4 = feat0 x0 x1 x2 := by
  unfold sout0_A_0
  rw [View.read_writes_junk_eq_canon]
  funext y
  refine View.canon_apply_of_pieces (feat0 x0 x1 x2) _ (View.PiecesOf.mem ?_) y (scover0_A_0 c i arg2 harg2 arg3 harg3 arg4 harg4 arg5 harg5 arg6 harg6 arg7 harg7 arg8 harg8 arg9 harg9 hc0 hc1 x0 x1 x2 x3 x4 y)
  unfold kernelRun0_A
  dsimp only
  sl_unfold_words
  have hz : (![0, 0] : Fin 2 → ℕ) = fun _ => 0 := by funext a; match a with | ⟨0, _⟩ => rfl | ⟨1, _⟩ => rfl
  simp only [View.readAt_eq_ld, harg2.read_unread, harg3.read_unread, harg4.read_unread, View.ld_unit_zero (S := S1x2048) hz]
  exact ⟨base_piece x0 x1 x2 384 _, base_piece x0 x1 x2 256 _, base_piece x0 x1 x2 128 _, base_piece x0 x1 x2 0 _, trivial⟩

theorem sout0_A_1_eq : sout0_A_1 c i arg2 harg2 arg3 harg3 arg4 harg4 arg5 harg5 arg6 harg6 arg7 harg7 arg8 harg8 arg9 harg9 hc0 hc1 x0 x1 x2 x3 x4 = feat1 cosPi x0 x1 x2 := by
  unfold sout0_A_1
  rw [View.read_writes_junk_eq_canon]
  funext y
  refine View.canon_apply_of_pieces (feat1 cosPi x0 x1 x2) _ (View.PiecesOf.mem ?_) y (scover0_A_1 c i arg2 harg2 arg3 harg3 arg4 harg4 arg5 harg5 arg6 harg6 arg7 harg7 arg8 harg8 arg9 harg9 hc0 hc1 x0 x1 x2 x3 x4 y)
  unfold kernelRun0_A
  dsimp only
  sl_unfold_words
  have hz : (![0, 0] : Fin 2 → ℕ) = fun _ => 0 := by funext a; match a with | ⟨0, _⟩ => rfl | ⟨1, _⟩ => rfl
  simp only [View.readAt_eq_ld, harg2.read_unread, harg3.read_unread, harg4.read_unread, View.ld_unit_zero (S := S1x2048) hz]
  exact chunk_pieces x0 x1 x2 384 (by decide) (by decide) _ (chunk_pieces x0 x1 x2 256 (by decide) (by decide) _
    (chunk_pieces x0 x1 x2 128 (by decide) (by decide) _ (chunk_pieces x0 x1 x2 0 (by decide) (by decide) _ trivial)))

theorem out0_A_5_eq : out0_A_5 c i arg2 harg2 arg3 harg3 arg4 harg4 arg5 harg5 arg6 harg6 arg7 harg7 arg8 harg8 arg9 harg9 hc0 hc1 x0 x1 x2 x3 x4 = tileOut (feat0 x0 x1 x2) x3 (feat1 cosPi x0 x1 x2) x4 := by
  unfold out0_A_5
  rw [View.read_writes_junk_eq_canon]
  funext y
  refine View.canon_apply_of_pieces (tileOut (feat0 x0 x1 x2) x3 (feat1 cosPi x0 x1 x2) x4) _ (View.PiecesOf.mem ?_) y (cover0_A_5 c i arg2 harg2 arg3 harg3 arg4 harg4 arg5 harg5 arg6 harg6 arg7 harg7 arg8 harg8 arg9 harg9 hc0 hc1 x0 x1 x2 x3 x4 y)
  unfold kernelRun0_A
  dsimp only
  sl_unfold_words
  have hz : (![0, 0] : Fin 2 → ℕ) = fun _ => 0 := by funext a; match a with | ⟨0, _⟩ => rfl | ⟨1, _⟩ => rfl
  simp only [View.readAt_eq_ld, harg2.read_unread, harg3.read_unread, harg4.read_unread, harg5.read_unread, harg6.read_unread,
    View.ld_unit_zero (S := S1x2048) hz, View.ld_unit_zero (S := S2048x256) hz, View.ld_unit_zero (S := S16384x256) hz]
  have p0 := chunk_pieces x0 x1 x2 0 (by decide) (by decide) [] trivial
  have p1 := chunk_pieces x0 x1 x2 128 (by decide) (by decide) _ p0
  have p2 := chunk_pieces x0 x1 x2 256 (by decide) (by decide) _ p1
  have p3 := chunk_pieces x0 x1 x2 384 (by decide) (by decide) _ p2
  refine ⟨?_, ?_, ?_, ?_, trivial⟩
  · exact out_piece _ _ _ _ 384 (by decide) (by decide) (by decide) _ _
      (load0 arg8 (feat0 x0 x1 x2) 384 _ _ _ ⟨base_piece x0 x1 x2 384 _, base_piece x0 x1 x2 256 _, base_piece x0 x1 x2 128 _, base_piece x0 x1 x2 0 _, trivial⟩)
      (load1 arg9 (feat1 cosPi x0 x1 x2) 384 _ (by decide) _ _ _ _ _ _ _ _ _ p3)
  · exact out_piece _ _ _ _ 256 (by decide) (by decide) (by decide) _ _
      (load0 arg8 (feat0 x0 x1 x2) 256 _ _ _ ⟨base_piece x0 x1 x2 256 _, base_piece x0 x1 x2 128 _, base_piece x0 x1 x2 0 _, trivial⟩)
      (load1 arg9 (feat1 cosPi x0 x1 x2) 256 _ (by decide) _ _ _ _ _ _ _ _ _ p2)
  · exact out_piece _ _ _ _ 128 (by decide) (by decide) (by decide) _ _
      (load0 arg8 (feat0 x0 x1 x2) 128 _ _ _ ⟨base_piece x0 x1 x2 128 _, base_piece x0 x1 x2 0 _, trivial⟩)
      (load1 arg9 (feat1 cosPi x0 x1 x2) 128 _ (by decide) _ _ _ _ _ _ _ _ _ p1)
  · exact out_piece _ _ _ _ 0 (by decide) (by decide) (by decide) _ _
      (load0 arg8 (feat0 x0 x1 x2) 0 _ _ _ ⟨base_piece x0 x1 x2 0 _, trivial⟩)
      (load1 arg9 (feat1 cosPi x0 x1 x2) 0 _ (by decide) _ _ _ _ _ _ _ _ _ p0)

theorem out0_B_5_eq (hd0 : ¬cond0_0 i) (hd1 : cond0_1 i) (f : Vec Ideal S512x2048 .bf16) (g : Vec Ideal S512x16384 .bf16) :
    out0_B_5 c i arg2 harg2 arg3 harg3 arg4 harg4 arg5 harg5 arg6 harg6 arg7 harg7 arg8 harg8 arg9 harg9 hd0 hd1 x0 x1 x2 x3 x4 f g = tileOut f x3 g x4 := by
  unfold out0_B_5
  rw [View.read_writes_junk_eq_canon]
  unfold kernelRun0_B
  dsimp only
  sl_unfold_words
  have hz : (![0, 0] : Fin 2 → ℕ) = fun _ => 0 := by funext a; match a with | ⟨0, _⟩ => rfl | ⟨1, _⟩ => rfl
  simp only [View.readAt_eq_ld, harg5.read_unread, harg6.read_unread, harg8.read_unread, harg9.read_unread,
    View.canon_cons_unit_zero (S := S512x256) hz, View.ld_unit_zero (S := S512x2048) hz, View.ld_unit_zero (S := S512x16384) hz,
    View.ld_unit_zero (S := S2048x256) hz, View.ld_unit_zero (S := S16384x256) hz, pay1_apply]

end Cert.KernelCosIdeal.Val

end
-- ==== Proof.Result.lean ====
/-
  What the kernel (in the form that takes the cosine) leaves in its result array, as one formula of the arguments.
-/
module

public import proofs.«01_k».proof.Proof.Chunk
public import Idealize.ShloMosaic.Lib.Pipeline.ValueKit.Point
public import Idealize.ShloMosaic.Lib.Pipeline.ValueKit

@[expose] public section

set_option maxRecDepth 16384

noncomputable section

namespace Cert.KernelCosIdeal.Val

open Cert.KernelCosIdeal Cert.KernelCosIdeal.Gen Idealize.ShloMosaic Idealize.ShloMosaic.TcCoe Idealize.SL.Sem
open Cert.Kan

variable (m : (ℓ : Loc nD τ sig) → Buf (Elt Ideal) ℓ) (c : Dev nD)

theorem idx : ∀ t : Fin cfg0.N, win0_0.index t = ![t.val / 8, 0] ∧ win0_1.index t = ![0, 0] ∧ win0_2.index t = ![0, 0]
    ∧ win0_3.index t = ![0, t.val % 8] ∧ win0_4.index t = ![0, t.val % 8] :=
  (by decide +kernel : ∀ t : Fin grid0.N, _)

theorem V_x (R : Fin 16384) (i : Fin 2048) : V m c main_v0 (ix2 R i)
    = m ((c : Thread nD τ).loc main_arg0) (ix3 ⟨R.val / 2048, by omega⟩ ⟨R.val % 2048, by omega⟩ i) := by
  entry_read
  pointwise

theorem V_w (i : Fin 2048) : V m c main_v6 (ix2 0 i) = m ((c : Thread nD τ).loc main_arg1) (ix1 i) := by
  entry_read
  pointwise

theorem V_b (i : Fin 2048) : V m c main_v7 (ix2 0 i) = m ((c : Thread nD τ).loc main_arg2) (ix1 i) := by
  entry_read
  pointwise

theorem V_W (i o : Fin 2048) : V m c main_v2 (ix2 i o) = m ((c : Thread nD τ).loc main_arg3) (ix2 o i) := by
  entry_read
  pointwise

theorem V_S (n : Fin 16384) (o : Fin 2048) : V m c main_v5 (ix2 n o)
    = m ((c : Thread nD τ).loc main_arg4) (ix3 o ⟨n.val % 2048, by omega⟩ ⟨n.val / 2048, by omega⟩) := by
  entry_read
  pointwise

theorem blk_x (t : Fin cfg0.N) (r : Fin 512) (i : Fin 2048) : iblk m c 0 t (ix2 r i)
    = m ((c : Thread nD τ).loc main_arg0) (ix3 ⟨(512 * (t.val / 8) + r.val) / 2048, by have := lt_of_lt_of_eq t.isLt N_0; omega⟩
        ⟨(512 * (t.val / 8) + r.val) % 2048, by omega⟩ i) :=
  (by blk_ext [iblk, idx t] : iblk m c 0 t (ix2 r i)
    = V m c main_v0 (ix2 ⟨512 * (t.val / 8) + r.val, by have := lt_of_lt_of_eq t.isLt N_0; omega⟩ i)).trans (V_x m c _ i)

theorem blk_w (t : Fin cfg0.N) (i : Fin 2048) : iblk m c 1 t (ix2 0 i) = m ((c : Thread nD τ).loc main_arg1) (ix1 i) :=
  (by blk_ext [iblk, idx t] : iblk m c 1 t (ix2 0 i) = V m c main_v6 (ix2 0 i)).trans (V_w m c i)

theorem blk_b (t : Fin cfg0.N) (i : Fin 2048) : iblk m c 2 t (ix2 0 i) = m ((c : Thread nD τ).loc main_arg2) (ix1 i) :=
  (by blk_ext [iblk, idx t] : iblk m c 2 t (ix2 0 i) = V m c main_v7 (ix2 0 i)).trans (V_b m c i)

theorem blk_W (t : Fin cfg0.N) (i : Fin 2048) (o : Fin 256) : iblk m c 3 t (ix2 i o)
    = m ((c : Thread nD τ).loc main_arg3) (ix2 ⟨256 * (t.val % 8) + o.val, by omega⟩ i) :=
  (by blk_ext [iblk, idx t] : iblk m c 3 t (ix2 i o) = V m c main_v2 (ix2 i ⟨256 * (t.val % 8) + o.val, by omega⟩)).trans
    (V_W m c i _)

theorem blk_S (t : Fin cfg0.N) (n : Fin 16384) (o : Fin 256) : iblk m c 4 t (ix2 n o)
    = m ((c : Thread nD τ).loc main_arg4) (ix3 ⟨256 * (t.val % 8) + o.val, by omega⟩ ⟨n.val % 2048, by omega⟩ ⟨n.val / 2048, by omega⟩) :=
  (by blk_ext [iblk, idx t] : iblk m c 4 t (ix2 n o) = V m c main_v5 (ix2 n ⟨256 * (t.val % 8) + o.val, by omega⟩)).trans
    (V_S m c n _)

/-- The normalised number at row `R` of the array, column `l`. -/
def zee (R : Fin 16384) (l : Fin 2048) : EReal :=
  normed (spreadOne fun i => m ((c : Thread nD τ).loc main_arg0) (ix3 ⟨R.val / 2048, by omega⟩ ⟨R.val % 2048, by omega⟩ i))
    (fun i => m ((c : Thread nD τ).loc main_arg0) (ix3 ⟨R.val / 2048, by omega⟩ ⟨R.val % 2048, by omega⟩ i))
    (fun i => m ((c : Thread nD τ).loc main_arg1) (ix1 i)) (fun i => m ((c : Thread nD τ).loc main_arg2) (ix1 i)) l

theorem zed_blk (t : Fin cfg0.N) (r : Fin 512) (l : Fin 2048) : zed (iblk m c 0 t) (iblk m c 1 t) (iblk m c 2 t) r l
    = zee m c ⟨512 * (t.val / 8) + r.val, by have := lt_of_lt_of_eq t.isLt N_0; omega⟩ l := by
  unfold zed zee
  simp only [blk_x, blk_w, blk_b]

/-- The kernel's result at row `R`, column `o`, where `C` takes the first cosine. -/
def total (C : EReal → EReal) (R : Fin 16384) (o : Fin 2048) : EReal :=
  (∑ i : Fin 2048, silu (zee m c R i) * m ((c : Thread nD τ).loc main_arg3) (ix2 o i))
  + ∑ n : Fin 16384, cheb (n.val / 2048) (C (zee m c R ⟨n.val % 2048, by omega⟩))
      * m ((c : Thread nD τ).loc main_arg4) (ix3 o ⟨n.val % 2048, by omega⟩ ⟨n.val / 2048, by omega⟩)

/-- The features that a point leaves are those of its rows, so the points of one row of the grid leave the same. -/
theorem feat_blk (C : EReal → EReal) (t t' : Fin cfg0.N) (h : t.val / 8 = t'.val / 8) :
    feat0 (iblk m c 0 t) (iblk m c 1 t) (iblk m c 2 t) = feat0 (iblk m c 0 t') (iblk m c 1 t') (iblk m c 2 t')
    ∧ feat1 C (iblk m c 0 t) (iblk m c 1 t) (iblk m c 2 t) = feat1 C (iblk m c 0 t') (iblk m c 1 t') (iblk m c 2 t') := by
  constructor
  · funext y
    show silu (zed _ _ _ (y 0) (y 1)) = silu (zed _ _ _ (y 0) (y 1))
    refine congrArg silu ((zed_blk m c t _ _).trans (Eq.trans ?_ (zed_blk m c t' _ _).symm))
    simp only [h]
  · funext y
    show cheb _ (C (zed _ _ _ (y 0) _)) = cheb _ (C (zed _ _ _ (y 0) _))
    refine congrArg (fun z => cheb _ (C z)) ((zed_blk m c t _ _).trans (Eq.trans ?_ (zed_blk m c t' _ _).symm))
    simp only [h]

/-- The block that a point writes. -/
theorem tile_blk (C : EReal → EReal) (t : Fin cfg0.N) (r : Fin 512) (o : Fin 256) :
    tileOut (feat0 (iblk m c 0 t) (iblk m c 1 t) (iblk m c 2 t)) (iblk m c 3 t)
      (feat1 C (iblk m c 0 t) (iblk m c 1 t) (iblk m c 2 t)) (iblk m c 4 t) (ix2 r o)
    = total m c C ⟨512 * (t.val / 8) + r.val, by have := lt_of_lt_of_eq t.isLt N_0; omega⟩ ⟨256 * (t.val % 8) + o.val, by omega⟩ := by
  show (∑ i : Fin 2048, silu (zed (iblk m c 0 t) (iblk m c 1 t) (iblk m c 2 t) r i) * iblk m c 3 t (ix2 i o) : EReal)
    + (∑ n : Fin 16384, cheb (n.val / 2048) (C (zed (iblk m c 0 t) (iblk m c 1 t) (iblk m c 2 t) r ⟨n.val % 2048, _⟩))
      * iblk m c 4 t (ix2 n o) : EReal) = _
  simp only [zed_blk, blk_W, blk_S]
  rfl

theorem outsAt_eq (n : ℕ) (hn : n < cfg0.N) : outsAt0 m c n hn
    = (tileOut (feat0 (iblk m c 0 ⟨n, hn⟩) (iblk m c 1 ⟨n, hn⟩) (iblk m c 2 ⟨n, hn⟩)) (iblk m c 3 ⟨n, hn⟩)
        (feat1 cosPi (iblk m c 0 ⟨n, hn⟩) (iblk m c 1 ⟨n, hn⟩) (iblk m c 2 ⟨n, hn⟩)) (iblk m c 4 ⟨n, hn⟩),
      feat0 (iblk m c 0 ⟨n, hn⟩) (iblk m c 1 ⟨n, hn⟩) (iblk m c 2 ⟨n, hn⟩),
      feat1 cosPi (iblk m c 0 ⟨n, hn⟩) (iblk m c 1 ⟨n, hn⟩) (iblk m c 2 ⟨n, hn⟩)) := by
  induction n with
  | zero =>
    refine (outsAt0_A m c ⟨0, hn⟩ (Nat.zero_mod 8) (by show ¬1 ≤ 0 % 8; omega)).trans ?_
    rw [out0_A_5_eq, sout0_A_0_eq, sout0_A_1_eq]
  | succ n ih =>
    by_cases h0 : (n + 1) % 8 = 0
    · refine (outsAt0_A m c ⟨n + 1, hn⟩ h0 (by show ¬1 ≤ (n + 1) % 8; omega)).trans ?_
      rw [out0_A_5_eq, sout0_A_0_eq, sout0_A_1_eq]
    · refine (outsAt0_B m c ⟨n + 1, hn⟩ h0 (by show 1 ≤ (n + 1) % 8; omega)).trans ?_
      have hp := ih (Nat.lt_of_succ_lt hn)
      obtain ⟨e0, e1⟩ := feat_blk m c cosPi ⟨n + 1, hn⟩ ⟨n, Nat.lt_of_succ_lt hn⟩ (by show (n + 1) / 8 = n / 8; omega)
      rw [out0_B_5_eq]
      unfold sout0_B_0 sout0_B_1
      rw [e0, e1]
      have hp' : outsAt0 m c ((⟨n + 1, hn⟩ : Fin cfg0.N).val - 1) (Nat.lt_of_le_of_lt (Nat.sub_le _ _) hn) = _ := hp
      rw [hp']

/-- The result array, at row `R` and column `o`. -/
theorem result_eq (y : S16384x2048.Idx) : Cert.KernelCosIdeal.Value.G5 m c y = total m c cosPi (y 0) (y 1) := by
  have h0 : (y 0).val < 16384 := (y 0).isLt
  have h1 : (y 1).val < 2048 := (y 1).isLt
  have hN : cfg0.N = 256 := N_0
  have hp : Cert.KernelCosIdeal.Value.pt5Of y < cfg0.N := by
    show 8 * ((y 0).val / 512 - 0) + 1 * ((y 1).val / 256 - 0) < cfg0.N; omega
  unfold Cert.KernelCosIdeal.Value.G5
  rw [dif_pos hp, ← Cert.KernelCosIdeal.Value.outsAt0_sweep m c _ hp, outsAt_eq]
  have e8 : (Cert.KernelCosIdeal.Value.pt5Of y) / 8 = (y 0).val / 512 := by
    show (8 * ((y 0).val / 512 - 0) + 1 * ((y 1).val / 256 - 0)) / 8 = _; omega
  have e256 : (Cert.KernelCosIdeal.Value.pt5Of y) % 8 = (y 1).val / 256 := by
    show (8 * ((y 0).val / 512 - 0) + 1 * ((y 1).val / 256 - 0)) % 8 = _; omega
  have eR : ∀ h, (⟨512 * (Cert.KernelCosIdeal.Value.pt5Of y / 8) + (y 0).val % 512, h⟩ : Fin 16384) = y 0 := fun h => Fin.ext (by
    show 512 * _ + _ = (y 0).val; rw [e8]; omega)
  have eO : ∀ h, (⟨256 * (Cert.KernelCosIdeal.Value.pt5Of y % 8) + (y 1).val % 256, h⟩ : Fin 2048) = y 1 := fun h => Fin.ext (by
    show 256 * _ + _ = (y 1).val; rw [e256]; omega)
  have e := tile_blk m c cosPi ⟨Cert.KernelCosIdeal.Value.pt5Of y, hp⟩ ⟨(y 0).val % 512, Nat.mod_lt _ (by decide)⟩ ⟨(y 1).val % 256, Nat.mod_lt _ (by decide)⟩
  have el : Cert.KernelCosIdeal.Value.loc5Of y = ix2 ⟨(y 0).val % 512, Nat.mod_lt _ (by decide)⟩ ⟨(y 1).val % 256, Nat.mod_lt _ (by decide)⟩ := by
    funext a; match a with | ⟨0, _⟩ => rfl | ⟨1, _⟩ => rfl
  refine (congrArg _ el).trans (e.trans ?_)
  exact congrArg₂ (total m c cosPi) (eR _) (eO _)

end Cert.KernelCosIdeal.Val

end
-- ==== Proof.Laws.lean ====
/-
  The two identities of the layer's mathematics that the kernel relies on: the variance of a row of real numbers is the
  mean of its squares less the square of its mean, and the three-term recurrence yields the cosines of the multiples of an
  angle.
-/
module

public import proofs.«01_k».proof.Proof.Spec
public import Idealize.ShloMosaic.Lib.IdealHost

@[expose] public section

noncomputable section

namespace Cert.Kan

open Idealize.ShloMosaic

theorem two_lit : Ideal.ofBits .f32 0x40000000#32 = ((2 : ℝ) : EReal) := by
  simp [Ideal.ofBits, Ideal.ieee, -EReal.coe_mul]; norm_num

theorem one_lit : Ideal.ofBits .f32 0x3F800000#32 = ((1 : ℝ) : EReal) := Ideal.ofBits_one_f32

theorem len_lit : Ideal.ofBits .f32 0x45000000#32 = ((2048 : ℝ) : EReal) := by
  simp [Ideal.ofBits, Ideal.ieee, -EReal.coe_mul]; norm_num

/-- The f32 number nearest pi. -/
def pif : ℝ := 13176795 / 4194304

theorem pi_lit : Ideal.ofBits .f32 0x40490FDB#32 = (pif : EReal) := by
  simp [Ideal.ofBits, Ideal.ieee, -EReal.coe_mul, pif]; norm_num

theorem coe_sum {n : ℕ} (g : Fin n → ℝ) : (∑ i, (g i : EReal)) = ((∑ i, g i : ℝ) : EReal) :=
  (map_sum (⟨⟨Real.toEReal, EReal.coe_zero⟩, EReal.coe_add⟩ : ℝ →+ EReal) g Finset.univ).symm

/-- The mean of a row of real numbers. -/
theorem avg_coe (g : Fin 2048 → ℝ) : avg (fun i => (g i : EReal)) = (((∑ i, g i) / 2048 : ℝ) : EReal) := by
  unfold avg
  rw [len_lit, coe_sum, Ideal.div_coe (by norm_num), ← EReal.coe_mul]
  congr 1; ring

/-- The two ways to take the variance of a row of real numbers agree. -/
theorem spread_coe (g : Fin 2048 → ℝ) : spreadOne (fun i => (g i : EReal)) = spreadTwo (fun i => (g i : EReal)) := by
  unfold spreadOne spreadTwo
  simp only [avg_coe, ← EReal.coe_mul, ← EReal.coe_sub]
  congr 1
  generalize hμ : (∑ i, g i) / 2048 = μ
  have hs : ∑ i, g i = 2048 * μ := by rw [← hμ]; ring
  have e : ∑ i, (g i - μ) * (g i - μ) = (∑ i, g i * g i) - 2 * μ * (∑ i, g i) + 2048 * (μ * μ) := by
    have : ∀ i, (g i - μ) * (g i - μ) = g i * g i - 2 * μ * g i + μ * μ := fun i => by ring
    simp only [this, Finset.sum_add_distrib, Finset.sum_sub_distrib, ← Finset.mul_sum, Finset.sum_const, Finset.card_univ,
      Fintype.card_fin, nsmul_eq_mul]
    push_cast; ring
  rw [e, hs]; ring

/-- The two ways to take the variance agree on a row of finite numbers. -/
theorem spread_eq (f : Fin 2048 → EReal) (h : ∀ i, f i ≠ ⊤ ∧ f i ≠ ⊥) : spreadOne f = spreadTwo f := by
  have e : f = fun i => ((f i).toReal : EReal) := funext fun i => (EReal.coe_toReal (h i).1 (h i).2).symm
  rw [e]; exact spread_coe _

/-- The hyperbolic tangent is always a real number in `[-1, 1]`. -/
theorem tanh_real (z : EReal) : ∃ t : ℝ, Ideal.tanh z = (t : EReal) ∧ |t| ≤ 1 := by
  induction z using EReal.rec with
  | bot => exact ⟨-1, by simp, by norm_num⟩
  | top => exact ⟨1, by simp, by norm_num⟩
  | coe r => exact ⟨Real.tanh r, by simp, (Real.abs_tanh_lt_one r).le⟩

/-- The recurrence from the cosine of an angle yields the cosines of its multiples. -/
theorem cheb_coe (k : ℕ) (θ : ℝ) : cheb k ((Real.cos θ : ℝ) : EReal) = ((Real.cos ((k + 1 : ℕ) * θ) : ℝ) : EReal) := by
  induction k using Nat.twoStepInduction with
  | zero => simp [cheb]
  | one =>
    simp only [cheb, two_lit, one_lit, ← EReal.coe_mul, ← EReal.coe_sub]
    congr 1; push_cast; rw [Real.cos_two_mul]; ring
  | more k h0 h1 =>
    rw [cheb, h0, h1, two_lit]
    simp only [← EReal.coe_mul, ← EReal.coe_sub]
    congr 1; push_cast
    have a := Real.cos_add (((k : ℝ) + 1 + 1) * θ) θ
    have b := Real.cos_sub (((k : ℝ) + 1 + 1) * θ) θ
    rw [show ((k : ℝ) + 2 + 1) * θ = ((k : ℝ) + 1 + 1) * θ + θ by ring, a,
      show ((k : ℝ) + 1) * θ = ((k : ℝ) + 1 + 1) * θ - θ by ring, b]
    ring

/-- The kernel's `k`-th cosine feature is the cosine of `(k + 1) * pi` times the hyperbolic tangent. -/
theorem cheb_cosPi (k : ℕ) (z : EReal) : cheb k (cosPi z)
    = Ideal.cos (Ideal.tanh z * ((1 + ((k : ℝ) : EReal)) * Ideal.ofBits .f32 0x40490FDB#32)) := by
  obtain ⟨t, ht, -⟩ := tanh_real z
  unfold cosPi
  rw [ht, pi_lit, ← EReal.coe_one, ← EReal.coe_add, ← EReal.coe_mul, ← EReal.coe_mul, ← EReal.coe_mul, Ideal.cos_coe,
    Ideal.cos_coe, cheb_coe]
  congr 2; push_cast; ring

/-- A sum over the features in the order of the kernel, `2048 * k + i`, as a double sum. -/
theorem sum_feats (f : Fin 8 → Fin 2048 → EReal) :
    (∑ n : Fin 16384, f ⟨n.val / 2048, by omega⟩ ⟨n.val % 2048, by omega⟩) = ∑ k, ∑ i, f k i := by
  rw [← Fintype.sum_prod_type' f]
  refine Fintype.sum_equiv (finProdFinEquiv (m := 8) (n := 2048)).symm _ _ fun n => ?_
  rfl

end Cert.Kan

end
-- ==== Proof.Ref.lean ====
/-
  The reference's result at an index: the layer's formula at one row and one output.
-/
module

public import proofs.«01_k».proof.Proof.Laws
public import proofs.«01_k».proof.Proof.Gen.ReferenceIdeal.Read
public import Idealize.ShloMosaic.Lib.Pointwise

@[expose] public section

set_option maxRecDepth 16384

noncomputable section

namespace Cert.ReferenceIdeal.Val

open Cert.ReferenceIdeal Cert.ReferenceIdeal.Read Cert.Kan Idealize.ShloMosaic Idealize.ShloMosaic.TcCoe Idealize.SL.Sem

/-- The reference's normalised rows. -/
theorem norm_apply (x : FVec Ideal S8x2048x2048 .f32) (w b : FVec Ideal S2048 .f32) (r : Fin 8) (s l : Fin 2048) :
    val_main_v23 (F := Ideal) x w b (ix3 r s l)
    = normed (spreadTwo fun i => x (ix3 r s i)) (fun i => x (ix3 r s i)) (fun i => w (ix1 i)) (fun i => b (ix1 i)) l := by
  pointwise [val_main_v23, val_main_v22, val_main_v21, val_main_v20, val_main_v19, val_main_v18, val_main_v17, val_main_v16,
    val_main_v15, val_main_v14, val_main_v13, val_main_v12, val_main_v11, val_main_v10, val_main_v9, val_main_v8, val_main_v7,
    val_main_v6, val_main_v5, val_main_v4, val_main_v3, val_main_v2, val_main_v1, val_main_v0, val_main_cst, val_main_cst_0,
    val_main_cst_1, val_main_cst_2, val_main_cst_3]
  rfl

/-- The `k`-th multiple of pi of the reference, counted from one. -/
theorem multiple (k : Fin 8) : (FloatOps.sitofp FTy.f32 (BitVec.ofNat 32 k.val) : Ideal .f32) = ((k.val : ℝ) : EReal) := by
  show (((BitVec.ofNat 32 k.val).toInt : ℝ) : EReal) = _
  have : (BitVec.ofNat 32 k.val).toInt = k.val := by
    rw [BitVec.toInt_eq_toNat_cond, BitVec.toNat_ofNat]; split <;> omega
  rw [this]; push_cast; rfl

/-- The reference's sum of the base and the cosine features, from the normalised row `z`. -/
theorem sum_apply (x : FVec Ideal S8x2048x2048 .f32) (w b : FVec Ideal S2048 .f32) (W : FVec Ideal S2048x2048 .f32)
    (ws : FVec Ideal S2048x2048x8 .f32) (r : Fin 8) (s o : Fin 2048) : val_main_v39 (F := Ideal) x w b W ws (ix3 r s o)
    = (∑ i, silu (val_main_v23 (F := Ideal) x w b (ix3 r s i)) * W (ix2 o i) : EReal)
      + ∑ k : Fin 8, ∑ i, Ideal.cos (Ideal.tanh (val_main_v23 (F := Ideal) x w b (ix3 r s i))
          * ((1 + ((k.val : ℝ) : EReal)) * Ideal.ofBits .f32 0x40490FDB#32)) * ws (ix3 o i k) := by
  unfold val_main_v39
  have h : ∀ y z : FVec Ideal S8x2048x2048 .f32, addf y z (ix3 r s o) = y (ix3 r s o) + z (ix3 r s o) := by
    intro y z; pointwise
  rw [h]
  unfold val_main_v25 val_main_v38 val_main_v37 val_main_v36 val_main_v34 val_main_v35 val_main_v33 val_main_v32 val_main_v26
    val_main_v24 val_main_call0_v5 val_main_call0_v4 val_main_call0_v3 val_main_call0_v2 val_main_call0_v1 val_main_call0_v0
  unfold val_main_v31 val_main_v29
  generalize val_main_v23 (F := Ideal) x w b = z
  pointwise [val_main_v27, val_main_v28, val_main_v30, val_main_cst_4, val_main_cst_5, val_main_call0_cst, val_main_call0_cst_0]
  simp only [multiple]
  rfl

/-- The reference's result, row by row. -/
theorem flat_apply (x : FVec Ideal S8x2048x2048 .f32) (w b : FVec Ideal S2048 .f32) (W : FVec Ideal S2048x2048 .f32)
    (ws : FVec Ideal S2048x2048x8 .f32) (y : S16384x2048.Idx) : val_main_v40 (F := Ideal) x w b W ws y
    = val_main_v39 (F := Ideal) x w b W ws (ix3 ⟨(y 0).val / 2048, by have : (y 0).val < 16384 := (y 0).isLt; omega⟩
        ⟨(y 0).val % 2048, by omega⟩ (y 1)) := by
  have h1 : (y 1).val < 2048 := (y 1).isLt
  refine (val_main_v40_apply _ _ _ _ _ y).trans (congrArg _ (funext fun a => ?_))
  match a with
  | ⟨0, _⟩ => exact Fin.ext (by show ((y 0).val * 2048 + (y 1).val) / 4194304 = (y 0).val / 2048; omega)
  | ⟨1, _⟩ => exact Fin.ext (by show ((y 0).val * 2048 + (y 1).val) / 2048 % 2048 = (y 0).val % 2048; omega)
  | ⟨2, _⟩ => exact Fin.ext (by show ((y 0).val * 2048 + (y 1).val) % 2048 = (y 1).val; omega)

end Cert.ReferenceIdeal.Val

end
-- ==== Proof.Equal.lean ====
/-
  The kernel's result array is the reference's when `x` is finite: the two variances are then the same, the recurrence
  yields the cosines, and the kernel's one sum over 16384 features is the reference's sum over eight multiples and 2048
  columns.
-/
module

public import proofs.«01_k».proof.Proof.Result
public import proofs.«01_k».proof.Proof.Ref
public import proofs.«01_k».proof.Pre_finite_x

@[expose] public section

set_option maxRecDepth 16384

noncomputable section

namespace Cert.Kan

open Idealize.ShloMosaic Idealize.ShloMosaic.TcCoe Idealize.SL.Sem

instance finiteFacts : Cert.Pre_finite_x.Facts := ⟨by decide⟩

/-- A number whose absolute value is below infinity is neither infinity. -/
theorem finite_of_cmp (v : EReal) (e : Ideal.cmp .olt (max v (-v)) (Ideal.ofBits .f32 0x7F800000#32) = 1#1) : v ≠ ⊤ ∧ v ≠ ⊥ := by
  have t : Ideal.ofBits .f32 0x7F800000#32 = ⊤ := by simp [Ideal.ofBits, Ideal.ieee]
  rw [t] at e
  have l : max v (-v) < ⊤ := by
    by_contra hn
    simp [Ideal.cmp, hn] at e
  exact ⟨fun hx => by rw [hx] at l; simp at l, fun hx => by rw [hx] at l; simp at l⟩

/-- The precondition at an element: neither infinity. -/
theorem finite_of_pre (x : FVec Ideal Cert.Pre_finite_x.S8x2048x2048 .f32) (w b : FVec Ideal Cert.Pre_finite_x.S2048 .f32)
    (W : FVec Ideal Cert.Pre_finite_x.S2048x2048 .f32) (ws : FVec Ideal Cert.Pre_finite_x.S2048x2048x8 .f32)
    (h : Cert.Pre_finite_x.fn (F := Ideal) x w b W ws = fun _ => 1#1) (y : Cert.Pre_finite_x.S8x2048x2048.Idx) :
    x y ≠ ⊤ ∧ x y ≠ ⊥ :=
  finite_of_cmp _ (congrFun h y)

variable (m : (ℓ : Loc Cert.KernelCosIdeal.nD Cert.KernelCosIdeal.τ Cert.KernelCosIdeal.sig) → Buf (Elt Ideal) ℓ)
  (m' : (ℓ : Loc Cert.ReferenceIdeal.nD Cert.ReferenceIdeal.τ Cert.ReferenceIdeal.sig) → Buf (Elt Ideal) ℓ)
  (c : Dev Cert.KernelCosIdeal.nD)

/-- The layer's formula: the value at row `R`, output `o`, of the arrays `x`, `w`, `b`, `W`, `ws`. -/
theorem total_ref (hx : ∀ y, m ((c.tc : Thread Cert.KernelCosIdeal.nD Cert.KernelCosIdeal.τ).loc Cert.KernelCosIdeal.main_arg0) y ≠ (⊤ : EReal)
      ∧ m ((c.tc : Thread Cert.KernelCosIdeal.nD Cert.KernelCosIdeal.τ).loc Cert.KernelCosIdeal.main_arg0) y ≠ (⊥ : EReal))
    (R : Fin 16384) (o : Fin 2048) : Cert.KernelCosIdeal.Val.total m c cosPi R o
    = Cert.ReferenceIdeal.Read.val_main_v39 (F := Ideal)
        (m ((c.tc : Thread Cert.KernelCosIdeal.nD Cert.KernelCosIdeal.τ).loc Cert.KernelCosIdeal.main_arg0))
        (m ((c.tc : Thread Cert.KernelCosIdeal.nD Cert.KernelCosIdeal.τ).loc Cert.KernelCosIdeal.main_arg1))
        (m ((c.tc : Thread Cert.KernelCosIdeal.nD Cert.KernelCosIdeal.τ).loc Cert.KernelCosIdeal.main_arg2))
        (m ((c.tc : Thread Cert.KernelCosIdeal.nD Cert.KernelCosIdeal.τ).loc Cert.KernelCosIdeal.main_arg3))
        (m ((c.tc : Thread Cert.KernelCosIdeal.nD Cert.KernelCosIdeal.τ).loc Cert.KernelCosIdeal.main_arg4))
        (ix3 ⟨R.val / 2048, by omega⟩ ⟨R.val % 2048, by omega⟩ o) := by
  refine Eq.trans ?_ (Cert.ReferenceIdeal.Val.sum_apply _ _ _ _ _ _ _ _).symm
  have hz : ∀ l, Cert.KernelCosIdeal.Val.zee m c R l = Cert.ReferenceIdeal.Read.val_main_v23 (F := Ideal)
      (m ((c.tc : Thread Cert.KernelCosIdeal.nD Cert.KernelCosIdeal.τ).loc Cert.KernelCosIdeal.main_arg0))
      (m ((c.tc : Thread Cert.KernelCosIdeal.nD Cert.KernelCosIdeal.τ).loc Cert.KernelCosIdeal.main_arg1))
      (m ((c.tc : Thread Cert.KernelCosIdeal.nD Cert.KernelCosIdeal.τ).loc Cert.KernelCosIdeal.main_arg2))
      (ix3 ⟨R.val / 2048, by omega⟩ ⟨R.val % 2048, by omega⟩ l) := fun l => by
    refine Eq.trans ?_ (Cert.ReferenceIdeal.Val.norm_apply _ _ _ _ _ _).symm
    unfold Cert.KernelCosIdeal.Val.zee
    rw [spread_eq _ fun i => hx _]
  unfold Cert.KernelCosIdeal.Val.total
  refine congrArg₂ (· + ·) (Finset.sum_congr rfl fun i _ => by rw [hz]) ?_
  rw [← sum_feats]
  refine Finset.sum_congr rfl fun n _ => ?_
  rw [hz, cheb_cosPi]

/-- The kernel's result array is the reference's. -/
theorem result_ref (hx : Cert.Pre_finite_x.fn (F := Ideal)
      (m ((c.tc : Thread Cert.KernelCosIdeal.nD Cert.KernelCosIdeal.τ).loc Cert.KernelCosIdeal.main_arg0))
      (m ((c.tc : Thread Cert.KernelCosIdeal.nD Cert.KernelCosIdeal.τ).loc Cert.KernelCosIdeal.main_arg1))
      (m ((c.tc : Thread Cert.KernelCosIdeal.nD Cert.KernelCosIdeal.τ).loc Cert.KernelCosIdeal.main_arg2))
      (m ((c.tc : Thread Cert.KernelCosIdeal.nD Cert.KernelCosIdeal.τ).loc Cert.KernelCosIdeal.main_arg3))
      (m ((c.tc : Thread Cert.KernelCosIdeal.nD Cert.KernelCosIdeal.τ).loc Cert.KernelCosIdeal.main_arg4)) = fun _ => 1#1) :
    Cert.ReferenceIdeal.Read.val_main_v40 (F := Ideal)
        (m ((c.tc : Thread Cert.KernelCosIdeal.nD Cert.KernelCosIdeal.τ).loc Cert.KernelCosIdeal.main_arg0))
        (m ((c.tc : Thread Cert.KernelCosIdeal.nD Cert.KernelCosIdeal.τ).loc Cert.KernelCosIdeal.main_arg1))
        (m ((c.tc : Thread Cert.KernelCosIdeal.nD Cert.KernelCosIdeal.τ).loc Cert.KernelCosIdeal.main_arg2))
        (m ((c.tc : Thread Cert.KernelCosIdeal.nD Cert.KernelCosIdeal.τ).loc Cert.KernelCosIdeal.main_arg3))
        (m ((c.tc : Thread Cert.KernelCosIdeal.nD Cert.KernelCosIdeal.τ).loc Cert.KernelCosIdeal.main_arg4))
    = Cert.KernelCosIdeal.Value.G5 m c := by
  funext y
  refine (Cert.ReferenceIdeal.Val.flat_apply _ _ _ _ _ y).trans (Eq.trans ?_ (Cert.KernelCosIdeal.Val.result_eq m c y).symm)
  exact (total_ref m c (fun y => finite_of_pre _ _ _ _ _ hx y) (y 0) (y 1)).symm

end Cert.Kan

end
-- ==== Proof.One.lean ====
/-
  What one grid point of the first version of the kernel leaves in its scratch buffer and in its output block, read at an
  index. The scratch buffer holds nine features of 2048 columns each: the base feature, then the eight cosines.
-/
module

public import proofs.«01_k».proof.Proof.Gen.KernelOneIdeal.Value
public import proofs.«01_k».proof.Proof.Spec
public import Idealize.ShloMosaic.Lib.Pipeline.ReadBack

@[expose] public section

set_option maxRecDepth 16384

noncomputable section

namespace Cert.KernelOneIdeal.Val

open Cert.KernelOneIdeal Cert.KernelOneIdeal.Gen Idealize.ShloMosaic Idealize.ShloMosaic.TcCoe Idealize.SL.Sem
open Cert.Kan

/-- The nine features of a normalised number. -/
def feature : ℕ → EReal → EReal
  | 0, z => silu z
  | k + 1, z => cheb k (cosPi z)

/-- The normalised number at row `r`, column `l` of a block of 512 rows. -/
def zed (X : Vec Ideal S512x2048 .f32) (w b : Vec Ideal S1x2048 .f32) (r : Fin 512) (l : Fin 2048) : EReal :=
  normed (spreadTwo fun i => X (ix2 r i)) (fun i => X (ix2 r i)) (fun i => w (ix2 0 i)) (fun i => b (ix2 0 i)) l

/-- The features of a block of 512 rows: column `2048 q + l` is feature `q` at column `l`. -/
def feat (X : Vec Ideal S512x2048 .f32) (w b : Vec Ideal S1x2048 .f32) : Vec Ideal S512x18432 .bf16 := fun y =>
  feature ((y 1).val / 2048) (zed X w b (y 0) ⟨(y 1).val % 2048, Nat.mod_lt _ (by decide)⟩)

/-- The normalised number at row `r`, column `l` of a chunk of 128 rows. -/
theorem norm_ix2 (x : Vec Ideal S128x2048 .f32) (w b : Vec Ideal S1x2048 .f32) (r : Fin 128) (l : Fin 2048) :
    k0_pay6 (F := Ideal) x w b (ix2 r l) = normed (spreadTwo fun i => x (ix2 r i)) (fun i => x (ix2 r i))
      (fun i => w (ix2 0 i)) (fun i => b (ix2 0 i)) l := by
  pointwise [k0_pay6]
  rfl

/-- The chunk of 128 rows from row `r` on, of a block of 512 rows. -/
abbrev rows (r : ℕ) (inb : ∀ a, (![r, 0] : Fin 2 → ℕ) a + S128x2048.size a ≤ S512x2048.size a) : Rect S512x2048 :=
  Rect.unit ![r, 0] S128x2048.size inb

/-- The place of feature `q` of the chunk of 128 rows from row `r` on, in the block of features. -/
abbrev tile (r q : ℕ) (inb : ∀ a, (![r, 2048 * q] : Fin 2 → ℕ) a + S128x2048.size a ≤ S512x18432.size a) : Rect S512x18432 :=
  Rect.unit ![r, 2048 * q] S128x2048.size inb

/-- A stored piece that holds feature `q` of its chunk holds that of its block. -/
theorem piece (X : Vec Ideal S512x2048 .f32) (w b : Vec Ideal S1x2048 .f32) (r q : ℕ)
    (inb : ∀ a, (![r, 0] : Fin 2 → ℕ) a + S128x2048.size a ≤ S512x2048.size a)
    (inb' : ∀ a, (![r, 2048 * q] : Fin 2 → ℕ) a + S128x2048.size a ≤ S512x18432.size a) (p : Vec Ideal S128x2048 .bf16)
    (hp : ∀ x, p x = feature q (k0_pay6 (F := Ideal) (View.ld X (rows r inb)) w b x)) (x : S128x2048.Idx) :
    p x = feat X w b ((tile r q inb').emb x) := by
  have hx : (x 1).val < 2048 := (x 1).isLt
  have h : ((tile r q inb').emb x 1).val = 2048 * q + (x 1).val := by
    show 2048 * q + 1 * (x 1).val = _; omega
  have hX : ∀ k : Fin 2048, View.ld X (rows r inb) (ix2 (x 0) k) = X (ix2 ((rows r inb).emb x 0) k) := fun k =>
    congrArg X (funext fun a => Fin.ext (by
      match a with
      | ⟨0, _⟩ => rfl
      | ⟨1, _⟩ => show 0 + 1 * k.val = k.val; omega))
  have ex : x = ix2 (x 0) (x 1) := by funext a; match a with | ⟨0, _⟩ => rfl | ⟨1, _⟩ => rfl
  have hn := (congrArg (k0_pay6 (F := Ideal) (View.ld X (rows r inb)) w b) ex).trans (norm_ix2 _ w b (x 0) (x 1))
  rw [hp x, hn]
  simp only [hX]
  unfold feat
  have h0 : (tile r q inb').emb x 0 = (rows r inb).emb x 0 := rfl
  rw [h0]
  simp only [h]
  rw [show (2048 * q + (x 1).val) / 2048 = q by omega]
  have h1 : (⟨(2048 * q + (x 1).val) % 2048, Nat.mod_lt _ (by decide)⟩ : Fin 2048) = x 1 := Fin.ext (by
    show (2048 * q + (x 1).val) % 2048 = _; omega)
  rw [h1]
  rfl

/-- The nine stored features of a chunk, in terms of its normalised numbers. -/
theorem store0 (x : Vec Ideal S128x2048 .f32) (w b : Vec Ideal S1x2048 .f32) (j : S128x2048.Idx) :
    k0_pay7 (F := Ideal) x w b j = feature 0 (k0_pay6 (F := Ideal) x w b j) := by
  unfold k0_pay7; rw [shapeCast_self]; rfl
theorem store1 (x : Vec Ideal S128x2048 .f32) (w b : Vec Ideal S1x2048 .f32) (j : S128x2048.Idx) :
    k0_pay9 (F := Ideal) x w b j = feature 1 (k0_pay6 (F := Ideal) x w b j) := by
  unfold k0_pay9; rw [shapeCast_self]; rfl
theorem store2 (x : Vec Ideal S128x2048 .f32) (w b : Vec Ideal S1x2048 .f32) (j : S128x2048.Idx) :
    k0_pay13 (F := Ideal) (k0_pay8 x w b) k0_pay10 j = feature 2 (k0_pay6 (F := Ideal) x w b j) := by
  unfold k0_pay13; rw [shapeCast_self]; rfl
theorem store3 (x : Vec Ideal S128x2048 .f32) (w b : Vec Ideal S1x2048 .f32) (j : S128x2048.Idx) :
    k0_pay15 (F := Ideal) (k0_pay8 x w b) k0_pay10 j = feature 3 (k0_pay6 (F := Ideal) x w b j) := by
  unfold k0_pay15; rw [shapeCast_self]; rfl
theorem store4 (x : Vec Ideal S128x2048 .f32) (w b : Vec Ideal S1x2048 .f32) (j : S128x2048.Idx) :
    k0_pay17 (F := Ideal) (k0_pay8 x w b) k0_pay10 j = feature 4 (k0_pay6 (F := Ideal) x w b j) := by
  unfold k0_pay17; rw [shapeCast_self]; rfl
theorem store5 (x : Vec Ideal S128x2048 .f32) (w b : Vec Ideal S1x2048 .f32) (j : S128x2048.Idx) :
    k0_pay19 (F := Ideal) (k0_pay8 x w b) k0_pay10 j = feature 5 (k0_pay6 (F := Ideal) x w b j) := by
  unfold k0_pay19; rw [shapeCast_self]; rfl
theorem store6 (x : Vec Ideal S128x2048 .f32) (w b : Vec Ideal S1x2048 .f32) (j : S128x2048.Idx) :
    k0_pay21 (F := Ideal) (k0_pay8 x w b) k0_pay10 j = feature 6 (k0_pay6 (F := Ideal) x w b j) := by
  unfold k0_pay21; rw [shapeCast_self]; rfl
theorem store7 (x : Vec Ideal S128x2048 .f32) (w b : Vec Ideal S1x2048 .f32) (j : S128x2048.Idx) :
    k0_pay23 (F := Ideal) (k0_pay8 x w b) k0_pay10 j = feature 7 (k0_pay6 (F := Ideal) x w b j) := by
  unfold k0_pay23; rw [shapeCast_self]; rfl
theorem store8 (x : Vec Ideal S128x2048 .f32) (w b : Vec Ideal S1x2048 .f32) (j : S128x2048.Idx) :
    k0_pay25 (F := Ideal) (k0_pay24 (k0_pay8 x w b) k0_pay10) j = feature 8 (k0_pay6 (F := Ideal) x w b j) := by
  unfold k0_pay25; rw [shapeCast_self]; rfl

/-- The nine stored pieces of a chunk are its block's features. -/
theorem chunk_pieces (X : Vec Ideal S512x2048 .f32) (w b : Vec Ideal S1x2048 .f32) (r : ℕ)
    (inb : ∀ a, (![r, 0] : Fin 2 → ℕ) a + S128x2048.size a ≤ S512x2048.size a)
    (h : ∀ q : Fin 9, ∀ a, (![r, 2048 * q.val] : Fin 2 → ℕ) a + S128x2048.size a ≤ S512x18432.size a)
    (L : List (View.Piece (Elt Ideal) S512x18432 .bf16)) (hL : View.PiecesOf (feat X w b) L) :
    View.PiecesOf (feat X w b)
      (⟨tile r 8 (h 8), k0_pay25 (F := Ideal) (k0_pay24 (k0_pay8 (View.ld X (rows r inb)) w b) k0_pay10)⟩
      :: ⟨tile r 7 (h 7), k0_pay23 (F := Ideal) (k0_pay8 (View.ld X (rows r inb)) w b) k0_pay10⟩
      :: ⟨tile r 6 (h 6), k0_pay21 (F := Ideal) (k0_pay8 (View.ld X (rows r inb)) w b) k0_pay10⟩
      :: ⟨tile r 5 (h 5), k0_pay19 (F := Ideal) (k0_pay8 (View.ld X (rows r inb)) w b) k0_pay10⟩
      :: ⟨tile r 4 (h 4), k0_pay17 (F := Ideal) (k0_pay8 (View.ld X (rows r inb)) w b) k0_pay10⟩
      :: ⟨tile r 3 (h 3), k0_pay15 (F := Ideal) (k0_pay8 (View.ld X (rows r inb)) w b) k0_pay10⟩
      :: ⟨tile r 2 (h 2), k0_pay13 (F := Ideal) (k0_pay8 (View.ld X (rows r inb)) w b) k0_pay10⟩
      :: ⟨tile r 1 (h 1), k0_pay9 (F := Ideal) (View.ld X (rows r inb)) w b⟩
      :: ⟨tile r 0 (h 0), k0_pay7 (F := Ideal) (View.ld X (rows r inb)) w b⟩ :: L) :=
  ⟨piece X w b r 8 inb (h 8) _ (store8 _ w b), piece X w b r 7 inb (h 7) _ (store7 _ w b), piece X w b r 6 inb (h 6) _ (store6 _ w b),
    piece X w b r 5 inb (h 5) _ (store5 _ w b), piece X w b r 4 inb (h 4) _ (store4 _ w b), piece X w b r 3 inb (h 3) _ (store3 _ w b),
    piece X w b r 2 inb (h 2) _ (store2 _ w b), piece X w b r 1 inb (h 1) _ (store1 _ w b), piece X w b r 0 inb (h 0) _ (store0 _ w b), hL⟩

/-- The output block: the features contracted with the weights of the block's columns. -/
def tileOut (f : Vec Ideal S512x18432 .bf16) (W : Vec Ideal S18432x256 .bf16) : Vec Ideal S512x256 .f32 := fun y =>
  (∑ n : Fin 18432, f (ix2 (y 0) n) * W (ix2 n (y 1)) : EReal)

theorem dot_apply (f : Vec Ideal S512x18432 .bf16) (W : Vec Ideal S18432x256 .bf16) : k0_pay5 (F := Ideal) f W = tileOut f W := by
  funext y
  refine (congrArg _ (show y = ix2 (y 0) (y 1) by funext a; match a with | ⟨0, _⟩ => rfl | ⟨1, _⟩ => rfl)).trans ?_
  unfold tileOut
  generalize y 0 = r
  generalize y 1 = l
  pointwise [k0_pay5]

variable (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S18432x256 .bf16) (harg5 : arg5.IsWhole) (arg6 : Memref sig .tc .vmem S512x256 .f32) (harg6 : arg6.IsWhole) (arg7 : Memref sig .tc .vmem S512x18432 .bf16) (harg7 : arg7.IsWhole) (hc0 : cond0_0 i)
    (x0 : Vec Ideal S512x2048 .f32) (x1 : Vec Ideal S1x2048 .f32) (x2 : Vec Ideal S1x2048 .f32) (x3 : Vec Ideal S18432x256 .bf16)

theorem sout0_A_0_eq : sout0_A_0 c i arg2 harg2 arg3 harg3 arg4 harg4 arg5 harg5 arg6 harg6 arg7 harg7 hc0 x0 x1 x2 x3 = feat x0 x1 x2 := by
  unfold sout0_A_0
  rw [View.read_writes_junk_eq_canon]
  funext y
  refine View.canon_apply_of_pieces (feat x0 x1 x2) _ (View.PiecesOf.mem ?_) y (scover0_A_0 c i arg2 harg2 arg3 harg3 arg4 harg4 arg5 harg5 arg6 harg6 arg7 harg7 hc0 x0 x1 x2 x3 y)
  unfold kernelRun0_A
  dsimp only
  sl_unfold_words
  have hz : (![0, 0] : Fin 2 → ℕ) = fun _ => 0 := by funext a; match a with | ⟨0, _⟩ => rfl | ⟨1, _⟩ => rfl
  simp only [View.readAt_eq_ld, harg2.read_unread, harg3.read_unread, harg4.read_unread, View.ld_unit_zero (S := S1x2048) hz]
  exact chunk_pieces x0 x1 x2 384 (by decide) (by decide) _ (chunk_pieces x0 x1 x2 256 (by decide) (by decide) _
    (chunk_pieces x0 x1 x2 128 (by decide) (by decide) _ (chunk_pieces x0 x1 x2 0 (by decide) (by decide) _ trivial)))

theorem out0_A_4_eq : out0_A_4 c i arg2 harg2 arg3 harg3 arg4 harg4 arg5 harg5 arg6 harg6 arg7 harg7 hc0 x0 x1 x2 x3 = tileOut (feat x0 x1 x2) x3 := by
  have hs := sout0_A_0_eq c i arg2 harg2 arg3 harg3 arg4 harg4 arg5 harg5 arg6 harg6 arg7 harg7 hc0 x0 x1 x2 x3
  unfold sout0_A_0 at hs
  rw [View.read_writes_junk_eq_canon] at hs
  unfold kernelRun0_A at hs
  dsimp only at hs
  unfold out0_A_4
  rw [View.read_writes_junk_eq_canon]
  unfold kernelRun0_A
  dsimp only
  have hz : (![0, 0] : Fin 2 → ℕ) = fun _ => 0 := by funext a; match a with | ⟨0, _⟩ => rfl | ⟨1, _⟩ => rfl
  have hv : kernelRun0_A.sl.v3 (F := Ideal) c arg2 harg2 arg3 harg3 arg4 harg4 arg7 x0 x1 x2 = feat x0 x1 x2 := by
    unfold kernelRun0_A.sl.v3
    rw [View.readCov_eq_canon']
    funext j
    refine (congrFun hs _).trans (congrArg _ (funext fun a => Fin.ext ?_))
    match a with
    | ⟨0, _⟩ => show 0 + 1 * (j 0).val = (j 0).val; omega
    | ⟨1, _⟩ => show 0 + 1 * (j 1).val = (j 1).val; omega
  sl_unfold_words
  simp only [View.readAt_eq_ld, harg5.read_unread, View.canon_cons_unit_zero (S := S512x256) hz,
    View.ld_unit_zero (S := S18432x256) hz, dot_apply]
  exact congrArg (tileOut · x3) hv

theorem out0_B_4_eq (hd0 : ¬cond0_0 i) (f : Vec Ideal S512x18432 .bf16) :
    out0_B_4 c i arg2 harg2 arg3 harg3 arg4 harg4 arg5 harg5 arg6 harg6 arg7 harg7 hd0 x0 x1 x2 x3 f = tileOut f x3 := by
  unfold out0_B_4
  rw [View.read_writes_junk_eq_canon]
  unfold kernelRun0_B
  dsimp only
  sl_unfold_words
  have hz : (![0, 0] : Fin 2 → ℕ) = fun _ => 0 := by funext a; match a with | ⟨0, _⟩ => rfl | ⟨1, _⟩ => rfl
  simp only [View.readAt_eq_ld, harg5.read_unread, harg7.read_unread, View.canon_cons_unit_zero (S := S512x256) hz,
    View.ld_unit_zero (S := S512x18432) hz, View.ld_unit_zero (S := S18432x256) hz, dot_apply]

end Cert.KernelOneIdeal.Val

end
-- ==== Proof.OneResult.lean ====
/-
  What the first version of the kernel leaves in its result array, as one formula of the arguments.
-/
module

public import proofs.«01_k».proof.Proof.One
public import Idealize.ShloMosaic.Lib.Pipeline.ValueKit.Point
public import Idealize.ShloMosaic.Lib.Pipeline.ValueKit

@[expose] public section

set_option maxRecDepth 16384

noncomputable section

namespace Cert.KernelOneIdeal.Val

open Cert.KernelOneIdeal Cert.KernelOneIdeal.Gen Idealize.ShloMosaic Idealize.ShloMosaic.TcCoe Idealize.SL.Sem
open Cert.Kan

variable (m : (ℓ : Loc nD τ sig) → Buf (Elt Ideal) ℓ) (c : Dev nD)

theorem idx : ∀ t : Fin cfg0.N, win0_0.index t = ![t.val / 8, 0] ∧ win0_1.index t = ![0, 0] ∧ win0_2.index t = ![0, 0]
    ∧ win0_3.index t = ![0, t.val % 8] :=
  (by decide +kernel : ∀ t : Fin grid0.N, _)

theorem V_x (R : Fin 16384) (i : Fin 2048) : V m c main_v0 (ix2 R i)
    = m ((c : Thread nD τ).loc main_arg0) (ix3 ⟨R.val / 2048, by omega⟩ ⟨R.val % 2048, by omega⟩ i) := by
  entry_read
  pointwise

theorem V_w (i : Fin 2048) : V m c main_v6 (ix2 0 i) = m ((c : Thread nD τ).loc main_arg1) (ix1 i) := by
  entry_read
  pointwise

theorem V_b (i : Fin 2048) : V m c main_v7 (ix2 0 i) = m ((c : Thread nD τ).loc main_arg2) (ix1 i) := by
  entry_read
  pointwise

/-- The one array of weights that the kernel reads: the base weights above the weights of the cosines. -/
theorem V_W (n : Fin 18432) (o : Fin 2048) : V m c main_v5 (ix2 n o)
    = if h : n.val < 2048 then m ((c : Thread nD τ).loc main_arg3) (ix2 o ⟨n.val, h⟩)
      else m ((c : Thread nD τ).loc main_arg4) (ix3 o ⟨(n.val - 2048) % 2048, by omega⟩ ⟨(n.val - 2048) / 2048, by omega⟩) := by
  entry_read
  pointwise

theorem blk_x (t : Fin cfg0.N) (r : Fin 512) (i : Fin 2048) : iblk m c 0 t (ix2 r i)
    = m ((c : Thread nD τ).loc main_arg0) (ix3 ⟨(512 * (t.val / 8) + r.val) / 2048, by have := lt_of_lt_of_eq t.isLt N_0; omega⟩
        ⟨(512 * (t.val / 8) + r.val) % 2048, by omega⟩ i) :=
  (by blk_ext [iblk, idx t] : iblk m c 0 t (ix2 r i)
    = V m c main_v0 (ix2 ⟨512 * (t.val / 8) + r.val, by have := lt_of_lt_of_eq t.isLt N_0; omega⟩ i)).trans (V_x m c _ i)

theorem blk_w (t : Fin cfg0.N) (i : Fin 2048) : iblk m c 1 t (ix2 0 i) = m ((c : Thread nD τ).loc main_arg1) (ix1 i) :=
  (by blk_ext [iblk, idx t] : iblk m c 1 t (ix2 0 i) = V m c main_v6 (ix2 0 i)).trans (V_w m c i)

theorem blk_b (t : Fin cfg0.N) (i : Fin 2048) : iblk m c 2 t (ix2 0 i) = m ((c : Thread nD τ).loc main_arg2) (ix1 i) :=
  (by blk_ext [iblk, idx t] : iblk m c 2 t (ix2 0 i) = V m c main_v7 (ix2 0 i)).trans (V_b m c i)

/-- The weight of feature column `n` for output `o`. -/
def wgt (n : Fin 18432) (o : Fin 2048) : EReal :=
  if h : n.val < 2048 then m ((c : Thread nD τ).loc main_arg3) (ix2 o ⟨n.val, h⟩)
  else m ((c : Thread nD τ).loc main_arg4) (ix3 o ⟨(n.val - 2048) % 2048, by omega⟩ ⟨(n.val - 2048) / 2048, by omega⟩)

theorem blk_W (t : Fin cfg0.N) (n : Fin 18432) (o : Fin 256) : iblk m c 3 t (ix2 n o)
    = wgt m c n ⟨256 * (t.val % 8) + o.val, by omega⟩ :=
  (by blk_ext [iblk, idx t] : iblk m c 3 t (ix2 n o) = V m c main_v5 (ix2 n ⟨256 * (t.val % 8) + o.val, by omega⟩)).trans
    (V_W m c n _)

/-- The normalised number at row `R` of the array, column `l`. -/
def zee (R : Fin 16384) (l : Fin 2048) : EReal :=
  normed (spreadTwo fun i => m ((c : Thread nD τ).loc main_arg0) (ix3 ⟨R.val / 2048, by omega⟩ ⟨R.val % 2048, by omega⟩ i))
    (fun i => m ((c : Thread nD τ).loc main_arg0) (ix3 ⟨R.val / 2048, by omega⟩ ⟨R.val % 2048, by omega⟩ i))
    (fun i => m ((c : Thread nD τ).loc main_arg1) (ix1 i)) (fun i => m ((c : Thread nD τ).loc main_arg2) (ix1 i)) l

theorem zed_blk (t : Fin cfg0.N) (r : Fin 512) (l : Fin 2048) : zed (iblk m c 0 t) (iblk m c 1 t) (iblk m c 2 t) r l
    = zee m c ⟨512 * (t.val / 8) + r.val, by have := lt_of_lt_of_eq t.isLt N_0; omega⟩ l := by
  unfold zed zee
  simp only [blk_x, blk_w, blk_b]

/-- The kernel's result at row `R`, column `o`. -/
def total (R : Fin 16384) (o : Fin 2048) : EReal :=
  ∑ n : Fin 18432, feature (n.val / 2048) (zee m c R ⟨n.val % 2048, by omega⟩) * wgt m c n o

/-- The features that a point leaves are those of its rows, so the points of one row of the grid leave the same. -/
theorem feat_blk (t t' : Fin cfg0.N) (h : t.val / 8 = t'.val / 8) :
    feat (iblk m c 0 t) (iblk m c 1 t) (iblk m c 2 t) = feat (iblk m c 0 t') (iblk m c 1 t') (iblk m c 2 t') := by
  funext y
  show feature _ (zed _ _ _ (y 0) _) = feature _ (zed _ _ _ (y 0) _)
  refine congrArg (feature _) ((zed_blk m c t _ _).trans (Eq.trans ?_ (zed_blk m c t' _ _).symm))
  simp only [h]

/-- The block that a point writes. -/
theorem tile_blk (t : Fin cfg0.N) (r : Fin 512) (o : Fin 256) :
    tileOut (feat (iblk m c 0 t) (iblk m c 1 t) (iblk m c 2 t)) (iblk m c 3 t) (ix2 r o)
    = total m c ⟨512 * (t.val / 8) + r.val, by have := lt_of_lt_of_eq t.isLt N_0; omega⟩ ⟨256 * (t.val % 8) + o.val, by omega⟩ := by
  show (∑ n : Fin 18432, feature (n.val / 2048) (zed (iblk m c 0 t) (iblk m c 1 t) (iblk m c 2 t) r ⟨n.val % 2048, _⟩)
    * iblk m c 3 t (ix2 n o) : EReal) = _
  simp only [zed_blk, blk_W]
  rfl

theorem outsAt_eq (n : ℕ) (hn : n < cfg0.N) : outsAt0 m c n hn
    = (tileOut (feat (iblk m c 0 ⟨n, hn⟩) (iblk m c 1 ⟨n, hn⟩) (iblk m c 2 ⟨n, hn⟩)) (iblk m c 3 ⟨n, hn⟩),
      feat (iblk m c 0 ⟨n, hn⟩) (iblk m c 1 ⟨n, hn⟩) (iblk m c 2 ⟨n, hn⟩)) := by
  induction n with
  | zero =>
    refine (outsAt0_A m c ⟨0, hn⟩ (Nat.zero_mod 8)).trans ?_
    rw [out0_A_4_eq, sout0_A_0_eq]
  | succ n ih =>
    by_cases h0 : (n + 1) % 8 = 0
    · refine (outsAt0_A m c ⟨n + 1, hn⟩ h0).trans ?_
      rw [out0_A_4_eq, sout0_A_0_eq]
    · refine (outsAt0_B m c ⟨n + 1, hn⟩ h0).trans ?_
      have hp := ih (Nat.lt_of_succ_lt hn)
      have e := feat_blk m c ⟨n + 1, hn⟩ ⟨n, Nat.lt_of_succ_lt hn⟩ (by show (n + 1) / 8 = n / 8; omega)
      rw [out0_B_4_eq]
      unfold sout0_B_0
      rw [e]
      have hp' : outsAt0 m c ((⟨n + 1, hn⟩ : Fin cfg0.N).val - 1) (Nat.lt_of_le_of_lt (Nat.sub_le _ _) hn) = _ := hp
      rw [hp']

/-- The result array, at row `R` and column `o`. -/
theorem result_eq (y : S16384x2048.Idx) : Cert.KernelOneIdeal.Value.G4 m c y = total m c (y 0) (y 1) := by
  have h0 : (y 0).val < 16384 := (y 0).isLt
  have h1 : (y 1).val < 2048 := (y 1).isLt
  have hN : cfg0.N = 256 := N_0
  have hp : Cert.KernelOneIdeal.Value.pt4Of y < cfg0.N := by
    show 8 * ((y 0).val / 512 - 0) + 1 * ((y 1).val / 256 - 0) < cfg0.N; omega
  unfold Cert.KernelOneIdeal.Value.G4
  rw [dif_pos hp, ← Cert.KernelOneIdeal.Value.outsAt0_sweep m c _ hp, outsAt_eq]
  have e8 : (Cert.KernelOneIdeal.Value.pt4Of y) / 8 = (y 0).val / 512 := by
    show (8 * ((y 0).val / 512 - 0) + 1 * ((y 1).val / 256 - 0)) / 8 = _; omega
  have e256 : (Cert.KernelOneIdeal.Value.pt4Of y) % 8 = (y 1).val / 256 := by
    show (8 * ((y 0).val / 512 - 0) + 1 * ((y 1).val / 256 - 0)) % 8 = _; omega
  have eR : ∀ h, (⟨512 * (Cert.KernelOneIdeal.Value.pt4Of y / 8) + (y 0).val % 512, h⟩ : Fin 16384) = y 0 := fun h => Fin.ext (by
    show 512 * _ + _ = (y 0).val; rw [e8]; omega)
  have eO : ∀ h, (⟨256 * (Cert.KernelOneIdeal.Value.pt4Of y % 8) + (y 1).val % 256, h⟩ : Fin 2048) = y 1 := fun h => Fin.ext (by
    show 256 * _ + _ = (y 1).val; rw [e256]; omega)
  have e := tile_blk m c ⟨Cert.KernelOneIdeal.Value.pt4Of y, hp⟩ ⟨(y 0).val % 512, Nat.mod_lt _ (by decide)⟩ ⟨(y 1).val % 256, Nat.mod_lt _ (by decide)⟩
  have el : Cert.KernelOneIdeal.Value.loc4Of y = ix2 ⟨(y 0).val % 512, Nat.mod_lt _ (by decide)⟩ ⟨(y 1).val % 256, Nat.mod_lt _ (by decide)⟩ := by
    funext a; match a with | ⟨0, _⟩ => rfl | ⟨1, _⟩ => rfl
  dsimp only
  rw [el]
  refine e.trans ?_
  exact congrArg₂ (total m c) (eR _) (eO _)

end Cert.KernelOneIdeal.Val

end
-- ==== Proof.OneEqual.lean ====
/-
  The first version's result array is the reference's, whatever the arguments hold: it takes the variance as the reference
  does, the recurrence yields the cosines, and its one sum over 18432 columns is the reference's sum over the base features
  and over eight multiples and 2048 columns.
-/
module

public import proofs.«01_k».proof.Proof.OneResult
public import proofs.«01_k».proof.Proof.Ref

@[expose] public section

set_option maxRecDepth 16384

noncomputable section

namespace Cert.Kan.One

open Idealize.ShloMosaic Idealize.ShloMosaic.TcCoe Idealize.SL.Sem
open Cert.KernelOneIdeal Cert.KernelOneIdeal.Val

variable (m : (ℓ : Loc nD τ sig) → Buf (Elt Ideal) ℓ) (c : Dev nD)

/-- A sum over the columns: first the base features, then the cosines. -/
theorem sum_columns (f : Fin 18432 → EReal) : (∑ n, f n)
    = (∑ i : Fin 2048, f ⟨i.val, by omega⟩) + ∑ n : Fin 16384, f ⟨2048 + n.val, by omega⟩ :=
  Fin.sum_univ_add (a := 2048) (b := 16384) f

theorem wgt_base (i o : Fin 2048) : wgt m c ⟨i.val, by omega⟩ o = m ((c.tc : Thread nD τ).loc main_arg3) (ix2 o i) := by
  unfold wgt
  rw [dif_pos (show i.val < 2048 from i.isLt)]

theorem wgt_cos (n : Fin 16384) (o : Fin 2048) : wgt m c ⟨2048 + n.val, by omega⟩ o
    = m ((c.tc : Thread nD τ).loc main_arg4) (ix3 o ⟨n.val % 2048, by omega⟩ ⟨n.val / 2048, by omega⟩) := by
  unfold wgt
  rw [dif_neg (show ¬2048 + n.val < 2048 by omega)]
  simp only [Nat.add_sub_cancel_left]

/-- The kernel's result at row `R`, output `o`, is the reference's. -/
theorem total_ref (R : Fin 16384) (o : Fin 2048) : total m c R o
    = Cert.ReferenceIdeal.Read.val_main_v39 (F := Ideal)
        (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4))
        (ix3 ⟨R.val / 2048, by omega⟩ ⟨R.val % 2048, by omega⟩ o) := by
  refine Eq.trans ?_ (Cert.ReferenceIdeal.Val.sum_apply _ _ _ _ _ _ _ _).symm
  have hz : ∀ l, zee m c R l = Cert.ReferenceIdeal.Read.val_main_v23 (F := Ideal)
      (m ((c.tc : Thread nD τ).loc main_arg0)) (m ((c.tc : Thread nD τ).loc main_arg1)) (m ((c.tc : Thread nD τ).loc main_arg2))
      (ix3 ⟨R.val / 2048, by omega⟩ ⟨R.val % 2048, by omega⟩ l) := fun l =>
    (Cert.ReferenceIdeal.Val.norm_apply _ _ _ _ _ _).symm
  unfold total
  rw [sum_columns]
  refine congrArg₂ (· + ·) (Finset.sum_congr rfl fun i _ => ?_) ?_
  · rw [wgt_base, hz]
    have e0 : i.val / 2048 = 0 := by omega
    have e1 : (⟨i.val % 2048, by omega⟩ : Fin 2048) = i := Fin.ext (by show i.val % 2048 = i.val; omega)
    simp only [e0, e1]
    rfl
  · rw [← sum_feats]
    refine Finset.sum_congr rfl fun n _ => ?_
    rw [wgt_cos, hz]
    have e0 : (2048 + n.val) / 2048 = n.val / 2048 + 1 := by omega
    have e1 : (2048 + n.val) % 2048 = n.val % 2048 := by omega
    simp only [e0, e1]
    exact congrArg (· * _) (cheb_cosPi _ _)

/-- The kernel's result array is the reference's. -/
theorem result_ref : Cert.ReferenceIdeal.Read.val_main_v40 (F := Ideal)
        (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4))
    = Cert.KernelOneIdeal.Value.G4 m c := by
  funext y
  refine (Cert.ReferenceIdeal.Val.flat_apply _ _ _ _ _ y).trans (Eq.trans ?_ (result_eq m c y).symm)
  exact (total_ref m c (y 0) (y 1)).symm

end Cert.Kan.One

end
-- ==== Proof.Written.lean ====
/-
  The kernel as it is written: it differs from the form that takes the cosine only in the first cosine feature, a
  polynomial in the square of the hyperbolic tangent. What a chunk's stores and loads have in common with that form is
  used from there.
-/
module

public import proofs.«01_k».proof.Proof.Gen.KernelIdeal.Value
public import proofs.«01_k».proof.Proof.Result

@[expose] public section

set_option maxRecDepth 16384

noncomputable section

namespace Cert.KernelIdeal.Val

open Cert.KernelIdeal Cert.KernelIdeal.Gen Idealize.ShloMosaic Idealize.ShloMosaic.TcCoe Idealize.SL.Sem
open Cert.Kan
open Cert.KernelCosIdeal.Val (zed feat0 feat1 rows tile wide base_piece cos_piece load0 load1 out_piece tileOut total)

/-- The polynomial's argument and its first two steps, of a chunk. -/
abbrev arg (x : Vec Ideal S128x2048 .f32) (w b : Vec Ideal S1x2048 .f32) := k0_pay7 (F := Ideal) x w b
abbrev acc (x : Vec Ideal S128x2048 .f32) (w b : Vec Ideal S1x2048 .f32) := k0_pay8 (F := Ideal) x w b

/-- Twice the first multiple, the fourth and the fifth, of a chunk. -/
abbrev twice (x : Vec Ideal S128x2048 .f32) (w b : Vec Ideal S1x2048 .f32) := k0_pay11 (arg x w b) (acc x w b)
abbrev fourth (x : Vec Ideal S128x2048 .f32) (w b : Vec Ideal S1x2048 .f32) := k0_pay16 (arg x w b) (acc x w b)
abbrev fifth (x : Vec Ideal S128x2048 .f32) (w b : Vec Ideal S1x2048 .f32) := k0_pay18 (arg x w b) (acc x w b)

/-- The eight stored multiples of a chunk, in terms of its normalised numbers. -/
theorem store0 (x : Vec Ideal S128x2048 .f32) (w b : Vec Ideal S1x2048 .f32) (j : S128x2048.Idx) :
    k0_pay10 (F := Ideal) (arg x w b) (acc x w b) j = cheb 0 (polyPi (k0_pay5 (F := Ideal) x w b j)) := by
  unfold k0_pay10; rw [shapeCast_self]; rfl
theorem store1 (x : Vec Ideal S128x2048 .f32) (w b : Vec Ideal S1x2048 .f32) (j : S128x2048.Idx) :
    k0_pay13 (F := Ideal) (arg x w b) (acc x w b) j = cheb 1 (polyPi (k0_pay5 (F := Ideal) x w b j)) := by
  unfold k0_pay13; rw [shapeCast_self]; rfl
theorem store2 (x : Vec Ideal S128x2048 .f32) (w b : Vec Ideal S1x2048 .f32) (j : S128x2048.Idx) :
    k0_pay15 (F := Ideal) (arg x w b) (acc x w b) j = cheb 2 (polyPi (k0_pay5 (F := Ideal) x w b j)) := by
  unfold k0_pay15; rw [shapeCast_self]; rfl
theorem store3 (x : Vec Ideal S128x2048 .f32) (w b : Vec Ideal S1x2048 .f32) (j : S128x2048.Idx) :
    k0_pay17 (F := Ideal) (arg x w b) (acc x w b) j = cheb 3 (polyPi (k0_pay5 (F := Ideal) x w b j)) := by
  unfold k0_pay17; rw [shapeCast_self]; rfl
theorem store4 (x : Vec Ideal S128x2048 .f32) (w b : Vec Ideal S1x2048 .f32) (j : S128x2048.Idx) :
    k0_pay20 (F := Ideal) (k0_pay19 (arg x w b) (acc x w b)) j = cheb 4 (polyPi (k0_pay5 (F := Ideal) x w b j)) := by
  unfold k0_pay20; rw [shapeCast_self]; rfl
theorem store5 (x : Vec Ideal S128x2048 .f32) (w b : Vec Ideal S1x2048 .f32) (j : S128x2048.Idx) :
    k0_pay22 (F := Ideal) (twice x w b) (fourth x w b) (fifth x w b) j = cheb 5 (polyPi (k0_pay5 (F := Ideal) x w b j)) := by
  unfold k0_pay22; rw [shapeCast_self]; rfl
theorem store6 (x : Vec Ideal S128x2048 .f32) (w b : Vec Ideal S1x2048 .f32) (j : S128x2048.Idx) :
    k0_pay24 (F := Ideal) (twice x w b) (fourth x w b) (fifth x w b) j = cheb 6 (polyPi (k0_pay5 (F := Ideal) x w b j)) := by
  unfold k0_pay24; rw [shapeCast_self]; rfl
theorem store7 (x : Vec Ideal S128x2048 .f32) (w b : Vec Ideal S1x2048 .f32) (j : S128x2048.Idx) :
    k0_pay25 (F := Ideal) (twice x w b) (fourth x w b) (fifth x w b) j = cheb 7 (polyPi (k0_pay5 (F := Ideal) x w b j)) := by
  unfold k0_pay25; rw [shapeCast_self]; rfl

/-- The eight stored pieces of a chunk are its block's cosine features. -/
theorem chunk_pieces (X : Vec Ideal S512x2048 .f32) (w b : Vec Ideal S1x2048 .f32) (r : ℕ)
    (inb : ∀ a, (![r, 0] : Fin 2 → ℕ) a + S128x2048.size a ≤ S512x2048.size a)
    (h : ∀ k : Fin 8, ∀ a, (![r, 2048 * k.val] : Fin 2 → ℕ) a + S128x2048.size a ≤ S512x16384.size a)
    (L : List (View.Piece (Elt Ideal) S512x16384 .bf16)) (hL : View.PiecesOf (feat1 polyPi X w b) L) :
    View.PiecesOf (feat1 polyPi X w b)
      (⟨tile r 7 (h 7), k0_pay25 (F := Ideal) (twice (View.ld X (rows r inb)) w b) (fourth (View.ld X (rows r inb)) w b) (fifth (View.ld X (rows r inb)) w b)⟩
      :: ⟨tile r 6 (h 6), k0_pay24 (F := Ideal) (twice (View.ld X (rows r inb)) w b) (fourth (View.ld X (rows r inb)) w b) (fifth (View.ld X (rows r inb)) w b)⟩
      :: ⟨tile r 5 (h 5), k0_pay22 (F := Ideal) (twice (View.ld X (rows r inb)) w b) (fourth (View.ld X (rows r inb)) w b) (fifth (View.ld X (rows r inb)) w b)⟩
      :: ⟨tile r 4 (h 4), k0_pay20 (F := Ideal) (k0_pay19 (arg (View.ld X (rows r inb)) w b) (acc (View.ld X (rows r inb)) w b))⟩
      :: ⟨tile r 3 (h 3), k0_pay17 (F := Ideal) (arg (View.ld X (rows r inb)) w b) (acc (View.ld X (rows r inb)) w b)⟩
      :: ⟨tile r 2 (h 2), k0_pay15 (F := Ideal) (arg (View.ld X (rows r inb)) w b) (acc (View.ld X (rows r inb)) w b)⟩
      :: ⟨tile r 1 (h 1), k0_pay13 (F := Ideal) (arg (View.ld X (rows r inb)) w b) (acc (View.ld X (rows r inb)) w b)⟩
      :: ⟨tile r 0 (h 0), k0_pay10 (F := Ideal) (arg (View.ld X (rows r inb)) w b) (acc (View.ld X (rows r inb)) w b)⟩ :: L) :=
  ⟨cos_piece polyPi X w b r 7 inb (h 7) _ (store7 _ w b), cos_piece polyPi X w b r 6 inb (h 6) _ (store6 _ w b),
    cos_piece polyPi X w b r 5 inb (h 5) _ (store5 _ w b), cos_piece polyPi X w b r 4 inb (h 4) _ (store4 _ w b),
    cos_piece polyPi X w b r 3 inb (h 3) _ (store3 _ w b), cos_piece polyPi X w b r 2 inb (h 2) _ (store2 _ w b),
    cos_piece polyPi X w b r 1 inb (h 1) _ (store1 _ w b), cos_piece polyPi X w b r 0 inb (h 0) _ (store0 _ w b), hL⟩

theorem whole_apply (f : Vec Ideal S512x2048 .bf16) (W : Vec Ideal S2048x256 .bf16) (g : Vec Ideal S512x16384 .bf16)
    (S : Vec Ideal S16384x256 .bf16) : k0_pay4 (F := Ideal) f W g S = tileOut f W g S :=
  Cert.KernelCosIdeal.Val.pay1_apply f W g S

variable (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S2048x256 .bf16) (harg5 : arg5.IsWhole) (arg6 : Memref sig .tc .vmem S16384x256 .bf16) (harg6 : arg6.IsWhole) (arg7 : Memref sig .tc .vmem S512x256 .f32) (harg7 : arg7.IsWhole) (arg8 : Memref sig .tc .vmem S512x2048 .bf16) (harg8 : arg8.IsWhole) (arg9 : Memref sig .tc .vmem S512x16384 .bf16) (harg9 : arg9.IsWhole) (hc0 : cond0_0 i) (hc1 : ¬cond0_1 i)
    (x0 : Vec Ideal S512x2048 .f32) (x1 : Vec Ideal S1x2048 .f32) (x2 : Vec Ideal S1x2048 .f32) (x3 : Vec Ideal S2048x256 .bf16) (x4 : Vec Ideal S16384x256 .bf16)

theorem sout0_A_0_eq : sout0_A_0 c i arg2 harg2 arg3 harg3 arg4 harg4 arg5 harg5 arg6 harg6 arg7 harg7 arg8 harg8 arg9 harg9 hc0 hc1 x0 x1 x2 x3 x4 = feat0 x0 x1 x2 := by
  unfold sout0_A_0
  rw [View.read_writes_junk_eq_canon]
  funext y
  refine View.canon_apply_of_pieces (feat0 x0 x1 x2) _ (View.PiecesOf.mem ?_) y (scover0_A_0 c i arg2 harg2 arg3 harg3 arg4 harg4 arg5 harg5 arg6 harg6 arg7 harg7 arg8 harg8 arg9 harg9 hc0 hc1 x0 x1 x2 x3 x4 y)
  unfold kernelRun0_A
  dsimp only
  sl_unfold_words
  have hz : (![0, 0] : Fin 2 → ℕ) = fun _ => 0 := by funext a; match a with | ⟨0, _⟩ => rfl | ⟨1, _⟩ => rfl
  simp only [View.readAt_eq_ld, harg2.read_unread, harg3.read_unread, harg4.read_unread, View.ld_unit_zero (S := S1x2048) hz]
  exact ⟨base_piece x0 x1 x2 384 _, base_piece x0 x1 x2 256 _, base_piece x0 x1 x2 128 _, base_piece x0 x1 x2 0 _, trivial⟩

theorem sout0_A_1_eq : sout0_A_1 c i arg2 harg2 arg3 harg3 arg4 harg4 arg5 harg5 arg6 harg6 arg7 harg7 arg8 harg8 arg9 harg9 hc0 hc1 x0 x1 x2 x3 x4 = feat1 polyPi x0 x1 x2 := by
  unfold sout0_A_1
  rw [View.read_writes_junk_eq_canon]
  funext y
  refine View.canon_apply_of_pieces (feat1 polyPi x0 x1 x2) _ (View.PiecesOf.mem ?_) y (scover0_A_1 c i arg2 harg2 arg3 harg3 arg4 harg4 arg5 harg5 arg6 harg6 arg7 harg7 arg8 harg8 arg9 harg9 hc0 hc1 x0 x1 x2 x3 x4 y)
  unfold kernelRun0_A
  dsimp only
  sl_unfold_words
  have hz : (![0, 0] : Fin 2 → ℕ) = fun _ => 0 := by funext a; match a with | ⟨0, _⟩ => rfl | ⟨1, _⟩ => rfl
  simp only [View.readAt_eq_ld, harg2.read_unread, harg3.read_unread, harg4.read_unread, View.ld_unit_zero (S := S1x2048) hz]
  exact chunk_pieces x0 x1 x2 384 (by decide) (by decide) _ (chunk_pieces x0 x1 x2 256 (by decide) (by decide) _
    (chunk_pieces x0 x1 x2 128 (by decide) (by decide) _ (chunk_pieces x0 x1 x2 0 (by decide) (by decide) _ trivial)))

theorem out0_A_5_eq : out0_A_5 c i arg2 harg2 arg3 harg3 arg4 harg4 arg5 harg5 arg6 harg6 arg7 harg7 arg8 harg8 arg9 harg9 hc0 hc1 x0 x1 x2 x3 x4 = tileOut (feat0 x0 x1 x2) x3 (feat1 polyPi x0 x1 x2) x4 := by
  unfold out0_A_5
  rw [View.read_writes_junk_eq_canon]
  funext y
  refine View.canon_apply_of_pieces (tileOut (feat0 x0 x1 x2) x3 (feat1 polyPi x0 x1 x2) x4) _ (View.PiecesOf.mem ?_) y (cover0_A_5 c i arg2 harg2 arg3 harg3 arg4 harg4 arg5 harg5 arg6 harg6 arg7 harg7 arg8 harg8 arg9 harg9 hc0 hc1 x0 x1 x2 x3 x4 y)
  unfold kernelRun0_A
  dsimp only
  sl_unfold_words
  have hz : (![0, 0] : Fin 2 → ℕ) = fun _ => 0 := by funext a; match a with | ⟨0, _⟩ => rfl | ⟨1, _⟩ => rfl
  simp only [View.readAt_eq_ld, harg2.read_unread, harg3.read_unread, harg4.read_unread, harg5.read_unread, harg6.read_unread,
    View.ld_unit_zero (S := S1x2048) hz, View.ld_unit_zero (S := S2048x256) hz, View.ld_unit_zero (S := S16384x256) hz]
  have p0 := chunk_pieces x0 x1 x2 0 (by decide) (by decide) [] trivial
  have p1 := chunk_pieces x0 x1 x2 128 (by decide) (by decide) _ p0
  have p2 := chunk_pieces x0 x1 x2 256 (by decide) (by decide) _ p1
  have p3 := chunk_pieces x0 x1 x2 384 (by decide) (by decide) _ p2
  refine ⟨?_, ?_, ?_, ?_, trivial⟩
  · exact out_piece _ _ _ _ 384 (by decide) (by decide) (by decide) _ _
      (load0 arg8 (feat0 x0 x1 x2) 384 _ _ _ ⟨base_piece x0 x1 x2 384 _, base_piece x0 x1 x2 256 _, base_piece x0 x1 x2 128 _, base_piece x0 x1 x2 0 _, trivial⟩)
      (load1 arg9 (feat1 polyPi x0 x1 x2) 384 _ (by decide) _ _ _ _ _ _ _ _ _ p3)
  · exact out_piece _ _ _ _ 256 (by decide) (by decide) (by decide) _ _
      (load0 arg8 (feat0 x0 x1 x2) 256 _ _ _ ⟨base_piece x0 x1 x2 256 _, base_piece x0 x1 x2 128 _, base_piece x0 x1 x2 0 _, trivial⟩)
      (load1 arg9 (feat1 polyPi x0 x1 x2) 256 _ (by decide) _ _ _ _ _ _ _ _ _ p2)
  · exact out_piece _ _ _ _ 128 (by decide) (by decide) (by decide) _ _
      (load0 arg8 (feat0 x0 x1 x2) 128 _ _ _ ⟨base_piece x0 x1 x2 128 _, base_piece x0 x1 x2 0 _, trivial⟩)
      (load1 arg9 (feat1 polyPi x0 x1 x2) 128 _ (by decide) _ _ _ _ _ _ _ _ _ p1)
  · exact out_piece _ _ _ _ 0 (by decide) (by decide) (by decide) _ _
      (load0 arg8 (feat0 x0 x1 x2) 0 _ _ _ ⟨base_piece x0 x1 x2 0 _, trivial⟩)
      (load1 arg9 (feat1 polyPi x0 x1 x2) 0 _ (by decide) _ _ _ _ _ _ _ _ _ p0)

theorem out0_B_5_eq (hd0 : ¬cond0_0 i) (hd1 : cond0_1 i) (f : Vec Ideal S512x2048 .bf16) (g : Vec Ideal S512x16384 .bf16) :
    out0_B_5 c i arg2 harg2 arg3 harg3 arg4 harg4 arg5 harg5 arg6 harg6 arg7 harg7 arg8 harg8 arg9 harg9 hd0 hd1 x0 x1 x2 x3 x4 f g = tileOut f x3 g x4 := by
  unfold out0_B_5
  rw [View.read_writes_junk_eq_canon]
  unfold kernelRun0_B
  dsimp only
  sl_unfold_words
  have hz : (![0, 0] : Fin 2 → ℕ) = fun _ => 0 := by funext a; match a with | ⟨0, _⟩ => rfl | ⟨1, _⟩ => rfl
  simp only [View.readAt_eq_ld, harg5.read_unread, harg6.read_unread, harg8.read_unread, harg9.read_unread,
    View.canon_cons_unit_zero (S := S512x256) hz, View.ld_unit_zero (S := S512x2048) hz, View.ld_unit_zero (S := S512x16384) hz,
    View.ld_unit_zero (S := S2048x256) hz, View.ld_unit_zero (S := S16384x256) hz, whole_apply]

end Cert.KernelIdeal.Val

end
-- ==== Proof.WrittenResult.lean ====
/-
  What the kernel as it is written leaves in its result array, as one formula of the arguments.
-/
module

public import proofs.«01_k».proof.Proof.Written

@[expose] public section

set_option maxRecDepth 16384

noncomputable section

namespace Cert.KernelIdeal.Val

open Cert.KernelIdeal Cert.KernelIdeal.Gen Idealize.ShloMosaic Idealize.ShloMosaic.TcCoe Idealize.SL.Sem
open Cert.Kan
open Cert.KernelCosIdeal.Val (zed feat0 feat1 tileOut total)

variable (m : (ℓ : Loc nD τ sig) → Buf (Elt Ideal) ℓ) (c : Dev nD)

/-- The argument blocks are those of the form that takes the cosine: the two programs cut their arguments alike. -/
theorem feat_blk (C : EReal → EReal) (t t' : Fin cfg0.N) (h : t.val / 8 = t'.val / 8) :
    feat0 (iblk m c 0 t) (iblk m c 1 t) (iblk m c 2 t) = feat0 (iblk m c 0 t') (iblk m c 1 t') (iblk m c 2 t')
    ∧ feat1 C (iblk m c 0 t) (iblk m c 1 t) (iblk m c 2 t) = feat1 C (iblk m c 0 t') (iblk m c 1 t') (iblk m c 2 t') :=
  Cert.KernelCosIdeal.Val.feat_blk m c C t t' h

theorem tile_blk (C : EReal → EReal) (t : Fin cfg0.N) (r : Fin 512) (o : Fin 256) :
    tileOut (feat0 (iblk m c 0 t) (iblk m c 1 t) (iblk m c 2 t)) (iblk m c 3 t)
      (feat1 C (iblk m c 0 t) (iblk m c 1 t) (iblk m c 2 t)) (iblk m c 4 t) (ix2 r o)
    = total m c C ⟨512 * (t.val / 8) + r.val, by have := lt_of_lt_of_eq t.isLt N_0; omega⟩ ⟨256 * (t.val % 8) + o.val, by omega⟩ :=
  Cert.KernelCosIdeal.Val.tile_blk m c C t r o

theorem outsAt_eq (n : ℕ) (hn : n < cfg0.N) : outsAt0 m c n hn
    = (tileOut (feat0 (iblk m c 0 ⟨n, hn⟩) (iblk m c 1 ⟨n, hn⟩) (iblk m c 2 ⟨n, hn⟩)) (iblk m c 3 ⟨n, hn⟩)
        (feat1 polyPi (iblk m c 0 ⟨n, hn⟩) (iblk m c 1 ⟨n, hn⟩) (iblk m c 2 ⟨n, hn⟩)) (iblk m c 4 ⟨n, hn⟩),
      feat0 (iblk m c 0 ⟨n, hn⟩) (iblk m c 1 ⟨n, hn⟩) (iblk m c 2 ⟨n, hn⟩),
      feat1 polyPi (iblk m c 0 ⟨n, hn⟩) (iblk m c 1 ⟨n, hn⟩) (iblk m c 2 ⟨n, hn⟩)) := by
  induction n with
  | zero =>
    refine (outsAt0_A m c ⟨0, hn⟩ (Nat.zero_mod 8) (by show ¬1 ≤ 0 % 8; omega)).trans ?_
    rw [out0_A_5_eq, sout0_A_0_eq, sout0_A_1_eq]
  | succ n ih =>
    by_cases h0 : (n + 1) % 8 = 0
    · refine (outsAt0_A m c ⟨n + 1, hn⟩ h0 (by show ¬1 ≤ (n + 1) % 8; omega)).trans ?_
      rw [out0_A_5_eq, sout0_A_0_eq, sout0_A_1_eq]
    · refine (outsAt0_B m c ⟨n + 1, hn⟩ h0 (by show 1 ≤ (n + 1) % 8; omega)).trans ?_
      have hp := ih (Nat.lt_of_succ_lt hn)
      obtain ⟨e0, e1⟩ := feat_blk m c polyPi ⟨n + 1, hn⟩ ⟨n, Nat.lt_of_succ_lt hn⟩ (by show (n + 1) / 8 = n / 8; omega)
      rw [out0_B_5_eq]
      unfold sout0_B_0 sout0_B_1
      rw [e0, e1]
      have hp' : outsAt0 m c ((⟨n + 1, hn⟩ : Fin cfg0.N).val - 1) (Nat.lt_of_le_of_lt (Nat.sub_le _ _) hn) = _ := hp
      rw [hp']

/-- The result array, at row `R` and column `o`. -/
theorem result_eq (y : S16384x2048.Idx) : Cert.KernelIdeal.Value.G5 m c y = total m c polyPi (y 0) (y 1) := by
  have h0 : (y 0).val < 16384 := (y 0).isLt
  have h1 : (y 1).val < 2048 := (y 1).isLt
  have hN : cfg0.N = 256 := N_0
  have hp : Cert.KernelIdeal.Value.pt5Of y < cfg0.N := by
    show 8 * ((y 0).val / 512 - 0) + 1 * ((y 1).val / 256 - 0) < cfg0.N; omega
  unfold Cert.KernelIdeal.Value.G5
  rw [dif_pos hp, ← Cert.KernelIdeal.Value.outsAt0_sweep m c _ hp, outsAt_eq]
  have e8 : (Cert.KernelIdeal.Value.pt5Of y) / 8 = (y 0).val / 512 := by
    show (8 * ((y 0).val / 512 - 0) + 1 * ((y 1).val / 256 - 0)) / 8 = _; omega
  have e256 : (Cert.KernelIdeal.Value.pt5Of y) % 8 = (y 1).val / 256 := by
    show (8 * ((y 0).val / 512 - 0) + 1 * ((y 1).val / 256 - 0)) % 8 = _; omega
  have eR : ∀ h, (⟨512 * (Cert.KernelIdeal.Value.pt5Of y / 8) + (y 0).val % 512, h⟩ : Fin 16384) = y 0 := fun h => Fin.ext (by
    show 512 * _ + _ = (y 0).val; rw [e8]; omega)
  have eO : ∀ h, (⟨256 * (Cert.KernelIdeal.Value.pt5Of y % 8) + (y 1).val % 256, h⟩ : Fin 2048) = y 1 := fun h => Fin.ext (by
    show 256 * _ + _ = (y 1).val; rw [e256]; omega)
  have e := tile_blk m c polyPi ⟨Cert.KernelIdeal.Value.pt5Of y, hp⟩ ⟨(y 0).val % 512, Nat.mod_lt _ (by decide)⟩ ⟨(y 1).val % 256, Nat.mod_lt _ (by decide)⟩
  have el : Cert.KernelIdeal.Value.loc5Of y = ix2 ⟨(y 0).val % 512, Nat.mod_lt _ (by decide)⟩ ⟨(y 1).val % 256, Nat.mod_lt _ (by decide)⟩ := by
    funext a; match a with | ⟨0, _⟩ => rfl | ⟨1, _⟩ => rfl
  refine (congrArg _ el).trans (e.trans ?_)
  exact congrArg₂ (total m c polyPi) (eR _) (eO _)

end Cert.KernelIdeal.Val

end
-- ==== Proof.Poly.lean ====
/-
  How far the kernel's polynomial is from the cosine. On `[-1, 1]` the degree-six polynomial in `t * t` differs from
  `cos (pif * t)` by at most `2.38e-7`. The cosine is its Taylor sum of eleven terms up to `1.6e-10`, and the difference of
  the polynomial and the Taylor sum is a polynomial in `u = t * t` that is bounded on `[0, 1]` by halving the interval a
  few times: on each part, a lower bound of the polynomial is read off its coefficients.
-/
module

public import proofs.«01_k».proof.Proof.Laws
public import Mathlib.Analysis.Complex.Exponential
public import Mathlib.Analysis.SpecialFunctions.Trigonometric.Basic

@[expose] public section

noncomputable section

namespace Cert.Kan

/-- The value at `u` of the polynomial with the given integer coefficients, the constant one first. -/
def horner : List ℤ → ℝ → ℝ
  | [], _ => 0
  | a :: l, u => a + u * horner l u

/-- A lower bound of the polynomial on `[0, 1]`. -/
def low : List ℤ → ℤ
  | [] => 0
  | a :: l => if low l < 0 then a + low l else a

/-- The polynomial at half the argument, scaled to integer coefficients. -/
def half : List ℤ → List ℤ
  | [] => []
  | a :: l => a * 2 ^ l.length :: half l

/-- The number `a` plus `1 + s` times the polynomial. -/
def times (a : ℤ) : List ℤ → List ℤ
  | [] => [a]
  | b :: l => (a + b) :: times b l

/-- The polynomial at `1 + s`. -/
def shift : List ℤ → List ℤ
  | [] => []
  | a :: l => times a (shift l)

/-- A test that the polynomial is not negative on `[0, 1]`, halving the interval at most `n` times. -/
def positive : ℕ → List ℤ → Bool
  | 0, l => decide (0 ≤ low l)
  | n + 1, l => decide (0 ≤ low l) || (positive n (half l) && positive n (shift (half l)))

theorem low_le (l : List ℤ) (u : ℝ) (h0 : 0 ≤ u) (h1 : u ≤ 1) : (low l : ℝ) ≤ horner l u := by
  induction l with
  | nil => simp [low, horner]
  | cons a l ih =>
    unfold low horner
    split
    · rename_i h
      have hl : (low l : ℝ) ≤ 0 := by exact_mod_cast h.le
      push_cast
      nlinarith
    · rename_i h
      have hl : (0 : ℝ) ≤ low l := by exact_mod_cast not_lt.1 h
      nlinarith [mul_nonneg h0 (hl.trans ih)]

theorem horner_half (l : List ℤ) (s : ℝ) : horner (half l) s * 2 = 2 ^ l.length * horner l (s / 2) := by
  induction l with
  | nil => simp [half, horner]
  | cons a l ih =>
    simp only [half, horner, List.length_cons, pow_succ]
    push_cast
    linear_combination s * ih

theorem horner_times (a : ℤ) (l : List ℤ) (s : ℝ) : horner (times a l) s = a + (1 + s) * horner l s := by
  induction l generalizing a with
  | nil => simp [times, horner]
  | cons b l ih =>
    simp only [times, horner, ih]
    push_cast
    ring

theorem horner_shift (l : List ℤ) (s : ℝ) : horner (shift l) s = horner l (1 + s) := by
  induction l with
  | nil => rfl
  | cons a l ih => simp only [shift, horner_times, ih, horner]

theorem positive_sound (n : ℕ) (l : List ℤ) (h : positive n l = true) (u : ℝ) (h0 : 0 ≤ u) (h1 : u ≤ 1) : 0 ≤ horner l u := by
  have base : ∀ l : List ℤ, ∀ u : ℝ, 0 ≤ u → u ≤ 1 → 0 ≤ low l → 0 ≤ horner l u := fun l u h0 h1 h =>
    (by exact_mod_cast h : (0 : ℝ) ≤ low l).trans (low_le l u h0 h1)
  induction n generalizing l u with
  | zero => exact base l u h0 h1 (by simpa [positive] using h)
  | succ n ih =>
    simp only [positive, Bool.or_eq_true, Bool.and_eq_true, decide_eq_true_eq] at h
    rcases h with h | ⟨ha, hb⟩
    · exact base l u h0 h1 h
    · have hp : (0 : ℝ) < 2 ^ l.length := by positivity
      have key : 0 ≤ 2 ^ l.length * horner l u := by
        rcases le_total u (1 / 2) with hu | hu
        · have e := horner_half l (2 * u)
          rw [show 2 * u / 2 = u by ring] at e
          rw [← e]
          exact mul_nonneg (ih _ ha _ (by linarith) (by linarith)) (by norm_num)
        · have e := horner_half l (1 + (2 * u - 1))
          rw [show (1 + (2 * u - 1)) / 2 = u by ring, ← horner_shift] at e
          rw [← e]
          exact mul_nonneg (ih _ hb _ (by linarith) (by linarith)) (by norm_num)
      exact nonneg_of_mul_nonneg_right key hp

/-- The kernel's polynomial, over the real numbers. -/
def poly (u : ℝ) : ℝ :=
  (((((13790057 / 8589934592 * u + -13631765 / 536870912) * u + 7887419 / 33554432) * u + -11200255 / 8388608) * u
    + 8511707 / 2097152) * u + -10349029 / 2097152) * u + 1

/-- The first eleven terms of the cosine's Taylor sum, in the square of the angle. -/
def taylor (x : ℝ) : ℝ := ∑ j ∈ Finset.range 11, (-1) ^ j * x ^ j / (2 * j).factorial

/-- The common denominator of the two bounds. -/
def scale : ℤ := 16450257379879995467115531507644130304257566996305401604307457896877728558548170973451584836294832411546169454131195961360294560165800349532160000000000

/-- The coefficients of `scale * (2.378e-7 + (poly u - taylor (pif * pif * u)))`. -/
def above : List ℤ :=
  [3911871204935462922080073392517774186352449431721424501504313487877523851222755057486786874070911147465679096192398399611478046407427323118747648,
   14750447646358685053460000714342025390291134488277492614068721641904122194447119029193839738567527129104170756303505073365191946330439680000000000,
   -236897770550807143169597469918802127417819431262709289387900634257741412877400549467033787295918978464574370256827920685136984466197053440000000000,
   1456677849049061041117531566368111794309841730760645299726583508266221192341909032557547503693558240195728731678621110031041620871636582400000000000,
   -4396806753735013856972343362946806819772604927213857045186970422406869366640665727853351762257455568502649768148804123566237449140337377280000000000,
   6839319835761025934649200205067546297977599118163923837341325817300194713051681246225661645476231304818310299669703340957476260124871884800000000000,
   -5333190387651533519883976150440801238860446625036489079361145111670861512524303556451611094808123644729010032392018256881319278015036784640000000000,
   1721324428359484987789663723486942525292561347149477784289210149998308012546487036152096279906621843486008588382415004756869120000000000000000000000,
   -70786633747299069377931018680265002233102700168044689035545311538411194566478424475811228658556111022357853076061364106035200000000000000000000000,
   2283124545272168815216323519342529187014193614645233891462193858379122061192903167446354977130647980175253260479947079680000000000000000000000000,
   -59298782406207602780279022246338826938324758922792195806767165121741219426866701086390693764272822649949994017443597025751830637454986572265625]

/-- The coefficients of `scale * (2.378e-7 - (poly u - taylor (pif * pif * u)))`. -/
def below : List ℤ :=
  [3911871204935462922080073392517774186352449431721424501504313487877523851222755057486786874070911147465679096192398399611478046407427323118747648,
   -14750447646358685053460000714342025390291134488277492614068721641904122194447119029193839738567527129104170756303505073365191946330439680000000000,
   236897770550807143169597469918802127417819431262709289387900634257741412877400549467033787295918978464574370256827920685136984466197053440000000000,
   -1456677849049061041117531566368111794309841730760645299726583508266221192341909032557547503693558240195728731678621110031041620871636582400000000000,
   4396806753735013856972343362946806819772604927213857045186970422406869366640665727853351762257455568502649768148804123566237449140337377280000000000,
   -6839319835761025934649200205067546297977599118163923837341325817300194713051681246225661645476231304818310299669703340957476260124871884800000000000,
   5333190387651533519883976150440801238860446625036489079361145111670861512524303556451611094808123644729010032392018256881319278015036784640000000000,
   -1721324428359484987789663723486942525292561347149477784289210149998308012546487036152096279906621843486008588382415004756869120000000000000000000000,
   70786633747299069377931018680265002233102700168044689035545311538411194566478424475811228658556111022357853076061364106035200000000000000000000000,
   -2283124545272168815216323519342529187014193614645233891462193858379122061192903167446354977130647980175253260479947079680000000000000000000000000,
   59298782406207602780279022246338826938324758922792195806767165121741219426866701086390693764272822649949994017443597025751830637454986572265625]

theorem above_eq (u : ℝ) : horner above u = scale * (2378 / 10 ^ 10 + (poly u - taylor (pif * pif * u))) := by
  simp only [above, horner, scale, poly, taylor, pif, Finset.sum_range_succ, Finset.sum_range_zero, Nat.factorial]
  push_cast
  ring

theorem below_eq (u : ℝ) : horner below u = scale * (2378 / 10 ^ 10 - (poly u - taylor (pif * pif * u))) := by
  simp only [below, horner, scale, poly, taylor, pif, Finset.sum_range_succ, Finset.sum_range_zero, Nat.factorial]
  push_cast
  ring

theorem poly_taylor (u : ℝ) (h0 : 0 ≤ u) (h1 : u ≤ 1) : |poly u - taylor (pif * pif * u)| ≤ 2378 / 10 ^ 10 := by
  have hs : (0 : ℝ) < scale := by exact_mod_cast (by decide +kernel : (0 : ℤ) < scale)
  have a := positive_sound 6 above (by decide +kernel) u h0 h1
  have b := positive_sound 6 below (by decide +kernel) u h0 h1
  rw [above_eq] at a
  rw [below_eq] at b
  have a' := nonneg_of_mul_nonneg_right a hs
  have b' := nonneg_of_mul_nonneg_right b hs
  rw [abs_le]
  constructor <;> linarith

/-- The even part of the exponential's partial sums at an imaginary number is the cosine's. -/
theorem partial_re (x : ℝ) (n : ℕ) : (∑ j ∈ Finset.range (2 * n), ((x : ℂ) * Complex.I) ^ j / (j.factorial : ℂ)).re
    = ∑ j ∈ Finset.range n, (-1) ^ j * (x * x) ^ j / ((2 * j).factorial : ℝ) := by
  induction n with
  | zero => simp
  | succ n ih =>
    rw [show 2 * (n + 1) = 2 * n + 1 + 1 by ring, Finset.sum_range_succ, Finset.sum_range_succ, Finset.sum_range_succ,
      Complex.add_re, Complex.add_re, ih]
    have e1 : ((x : ℂ) * Complex.I) ^ (2 * n) = (((-1) ^ n * (x * x) ^ n : ℝ) : ℂ) := by
      rw [mul_pow, pow_mul Complex.I, Complex.I_sq, pow_mul]
      push_cast; ring
    have e2 : ((x : ℂ) * Complex.I) ^ (2 * n + 1) / ((2 * n + 1).factorial : ℂ)
        = (((-1) ^ n * (x * x) ^ n * x / ((2 * n + 1).factorial : ℝ) : ℝ) : ℂ) * Complex.I := by
      rw [pow_succ, e1]
      push_cast; ring
    have e3 : ((x : ℂ) * Complex.I) ^ (2 * n) / ((2 * n).factorial : ℂ)
        = (((-1) ^ n * (x * x) ^ n / ((2 * n).factorial : ℝ) : ℝ) : ℂ) := by
      rw [e1]; push_cast; ring
    rw [e2, e3, Complex.ofReal_re, Complex.re_ofReal_mul, Complex.I_re]
    ring

theorem cos_taylor (x : ℝ) (h : |x| ≤ 4) : |Real.cos x - taylor (x * x)| ≤ |x| ^ 22 / 1124000727777607680000 * 2 := by
  have hn : ‖(x : ℂ) * Complex.I‖ = |x| := by
    rw [norm_mul, Complex.norm_I, mul_one, Complex.norm_real, Real.norm_eq_abs]
  have e := Complex.exp_bound' (x := (x : ℂ) * Complex.I) (n := 22) (by
    rw [hn, div_le_div_iff₀ (by norm_num) (by norm_num)]; norm_num; linarith)
  rw [hn, show ((Nat.factorial 22 : ℕ) : ℝ) = 1124000727777607680000 by simp [Nat.factorial]] at e
  refine le_trans ?_ e
  have r := Complex.abs_re_le_norm (Complex.exp ((x : ℂ) * Complex.I)
    - ∑ j ∈ Finset.range 22, ((x : ℂ) * Complex.I) ^ j / (j.factorial : ℂ))
  rw [Complex.sub_re, Complex.exp_ofReal_mul_I_re, partial_re x 11] at r
  exact r

/-- The kernel's polynomial differs from the cosine of `pif * t` by at most `2.38e-7` on `[-1, 1]`. -/
theorem poly_cos (t : ℝ) (h : |t| ≤ 1) : |poly (t * t) - Real.cos (pif * t)| ≤ 238 / 10 ^ 9 := by
  have hp : |pif * t| ≤ pif := by
    rw [abs_mul, abs_of_pos (by norm_num [pif] : (0 : ℝ) < pif)]
    exact mul_le_of_le_one_right (by norm_num [pif]) h
  have hu : t * t ≤ 1 := by
    have := mul_le_mul h h (abs_nonneg t) zero_le_one
    rwa [abs_mul_abs_self, mul_one] at this
  have a := poly_taylor (t * t) (mul_self_nonneg t) hu
  have b := cos_taylor (pif * t) (hp.trans (by norm_num [pif]))
  rw [show pif * t * (pif * t) = pif * pif * (t * t) by ring] at b
  have c : |pif * t| ^ 22 / 1124000727777607680000 * 2 ≤ 16 / 10 ^ 11 := by
    have := pow_le_pow_left₀ (abs_nonneg _) hp 22
    have d : pif ^ 22 / 1124000727777607680000 * 2 ≤ 16 / 10 ^ 11 := by norm_num [pif]
    refine le_trans ?_ d
    gcongr
  rw [abs_le] at a ⊢
  have b' := abs_le.1 (b.trans c)
  constructor <;> linarith [a.1, a.2, b'.1, b'.2]

end Cert.Kan

end
-- ==== Proof.Error.lean ====
/-
  How far the eight features that the kernel makes from its polynomial are from the eight cosines: the recurrence multiplies
  the error of the first by at most about `(k + 1)²`, so each is within `2^-16`.
-/
module

public import proofs.«01_k».proof.Proof.Poly

@[expose] public section

noncomputable section

namespace Cert.Kan

open Idealize.ShloMosaic

/-- The recurrence over the real numbers. -/
def multi : ℕ → ℝ → ℝ
  | 0, c => c
  | 1, c => 2 * c * c - 1
  | k + 2, c => 2 * c * multi (k + 1) c - multi k c

theorem cheb_real (k : ℕ) (x : ℝ) : cheb k (x : EReal) = (multi k x : EReal) := by
  induction k using Nat.twoStepInduction with
  | zero => rfl
  | one => simp only [cheb, multi, two_lit, one_lit, ← EReal.coe_mul, ← EReal.coe_sub]
  | more k h0 h1 => rw [cheb, h0, h1, multi, two_lit]; simp only [← EReal.coe_mul, ← EReal.coe_sub]

theorem multi_cos (k : ℕ) (θ : ℝ) : multi k (Real.cos θ) = Real.cos ((k + 1 : ℕ) * θ) :=
  EReal.coe_injective ((cheb_real k _).symm.trans (cheb_coe k θ))

theorem multi_le (k : ℕ) (θ : ℝ) : |multi k (Real.cos θ)| ≤ 1 := by
  rw [multi_cos]; exact Real.abs_cos_le_one _

/-- The error of twice a product of two numbers that are near numbers of size at most one. -/
theorem product_near {a b a' b' p q : ℝ} (ha : |a - a'| ≤ p) (hb : |b - b'| ≤ q) (ha' : |a'| ≤ 1) (hb' : |b'| ≤ 1) :
    |2 * a * b - 2 * a' * b'| ≤ 2 * (p + q + p * q) := by
  have e : 2 * a * b - 2 * a' * b' = 2 * ((a - a') * (b - b') + a' * (b - b') + b' * (a - a')) := by ring
  have hp := (abs_nonneg _).trans ha
  have hq := (abs_nonneg _).trans hb
  have h1 : |(a - a') * (b - b')| ≤ p * q := by rw [abs_mul]; exact mul_le_mul ha hb (abs_nonneg _) hp
  have h2 : |a' * (b - b')| ≤ q := by rw [abs_mul]; exact (mul_le_mul ha' hb (abs_nonneg _) zero_le_one).trans (one_mul q).le
  have h3 : |b' * (a - a')| ≤ p := by rw [abs_mul]; exact (mul_le_mul hb' ha (abs_nonneg _) zero_le_one).trans (one_mul p).le
  rw [e, abs_mul, abs_of_pos (by norm_num : (0 : ℝ) < 2)]
  refine mul_le_mul_of_nonneg_left ?_ (by norm_num)
  have t1 := abs_add_le ((a - a') * (b - b') + a' * (b - b')) (b' * (a - a'))
  have t2 := abs_add_le ((a - a') * (b - b')) (a' * (b - b'))
  linarith

/-- The error of a multiple obtained from two smaller ones and their difference. -/
theorem step {x θ p q s e : ℝ} (r m n d : ℕ) (hr : ∀ z, multi r z = 2 * multi m z * multi n z - multi d z)
    (hm : |multi m x - multi m (Real.cos θ)| ≤ p) (hn : |multi n x - multi n (Real.cos θ)| ≤ q)
    (hd : |multi d x - multi d (Real.cos θ)| ≤ s) (he : 2 * (p + q + p * q) + s ≤ e) :
    |multi r x - multi r (Real.cos θ)| ≤ e := by
  have h := product_near hm hn (multi_le m θ) (multi_le n θ)
  rw [hr, hr]
  rw [abs_le] at *
  constructor <;> linarith [h.1, h.2, hd.1, hd.2]

/-- The error of the double of a multiple. -/
theorem double {x θ p e : ℝ} (r m : ℕ) (hr : ∀ z, multi r z = 2 * multi m z * multi m z - 1)
    (hm : |multi m x - multi m (Real.cos θ)| ≤ p) (he : 2 * (p + p + p * p) ≤ e) :
    |multi r x - multi r (Real.cos θ)| ≤ e := by
  have h := product_near hm hm (multi_le m θ) (multi_le m θ)
  rw [hr, hr]
  rw [abs_le] at *
  constructor <;> linarith [h.1, h.2]

/-- Eight multiples from a number within `2.38e-7` of the cosine of an angle are within `2^-16` of the cosines. -/
theorem multi_near (k : Fin 8) (x θ : ℝ) (h : |x - Real.cos θ| ≤ 238 / 10 ^ 9) :
    |multi k.val x - multi k.val (Real.cos θ)| ≤ 1 / 65536 := by
  have e0 : |multi 0 x - multi 0 (Real.cos θ)| ≤ 238 / 10 ^ 9 := h
  have e1 : |multi 1 x - multi 1 (Real.cos θ)| ≤ 953 / 10 ^ 9 :=
    double 1 0 (fun z => by simp only [multi]) e0 (by norm_num)
  have e2 : |multi 2 x - multi 2 (Real.cos θ)| ≤ 2621 / 10 ^ 9 :=
    step 2 0 1 0 (fun z => by simp only [multi]) e0 e1 e0 (by norm_num)
  have e3 : |multi 3 x - multi 3 (Real.cos θ)| ≤ 3813 / 10 ^ 9 :=
    double 3 1 (fun z => by simp only [multi]; ring) e1 (by norm_num)
  have e4 : |multi 4 x - multi 4 (Real.cos θ)| ≤ 7387 / 10 ^ 9 :=
    step 4 1 2 0 (fun z => by simp only [multi]; ring) e1 e2 e0 (by norm_num)
  have e5 : |multi 5 x - multi 5 (Real.cos θ)| ≤ 10485 / 10 ^ 9 :=
    double 5 2 (fun z => by simp only [multi]; ring) e2 (by norm_num)
  have e6 : |multi 6 x - multi 6 (Real.cos θ)| ≤ 13107 / 10 ^ 9 :=
    step 6 2 3 0 (fun z => by simp only [multi]; ring) e2 e3 e0 (by norm_num)
  have e7 : |multi 7 x - multi 7 (Real.cos θ)| ≤ 15253 / 10 ^ 9 :=
    double 7 3 (fun z => by simp only [multi]; ring) e3 (by norm_num)
  match k with
  | 0 => exact e0.trans (by norm_num)
  | 1 => exact e1.trans (by norm_num)
  | 2 => exact e2.trans (by norm_num)
  | 3 => exact e3.trans (by norm_num)
  | 4 => exact e4.trans (by norm_num)
  | 5 => exact e5.trans (by norm_num)
  | 6 => exact e6.trans (by norm_num)
  | 7 => exact e7.trans (by norm_num)

theorem coef6 : Ideal.ofBits .f32 0x3AD26B69#32 = ((13790057 / 8589934592 : ℝ) : EReal) := by
  simp [Ideal.ofBits, Ideal.ieee, -EReal.coe_mul]; norm_num
theorem coef5 : Ideal.ofBits .f32 0xBCD00115#32 = ((-13631765 / 536870912 : ℝ) : EReal) := by
  simp [Ideal.ofBits, Ideal.ieee, -EReal.coe_mul]; norm_num
theorem coef4 : Ideal.ofBits .f32 0x3E70B476#32 = ((7887419 / 33554432 : ℝ) : EReal) := by
  simp [Ideal.ofBits, Ideal.ieee, -EReal.coe_mul]; norm_num
theorem coef3 : Ideal.ofBits .f32 0xBFAAE6FF#32 = ((-11200255 / 8388608 : ℝ) : EReal) := by
  simp [Ideal.ofBits, Ideal.ieee, -EReal.coe_mul]; norm_num
theorem coef2 : Ideal.ofBits .f32 0x4081E0DB#32 = ((8511707 / 2097152 : ℝ) : EReal) := by
  simp [Ideal.ofBits, Ideal.ieee, -EReal.coe_mul]; norm_num
theorem coef1 : Ideal.ofBits .f32 0xC09DE9E5#32 = ((-10349029 / 2097152 : ℝ) : EReal) := by
  simp [Ideal.ofBits, Ideal.ieee, -EReal.coe_mul]; norm_num
theorem err_lit : Ideal.ofBits .f32 0x37800000#32 = ((1 / 65536 : ℝ) : EReal) := by
  simp [Ideal.ofBits, Ideal.ieee, -EReal.coe_mul]; norm_num

/-- The polynomial of the hyperbolic tangent is a real number. -/
theorem polyPi_real (z : EReal) (t : ℝ) (h : Ideal.tanh z = (t : EReal)) : polyPi z = (poly (t * t) : EReal) := by
  unfold polyPi poly
  simp only [h, coef6, coef5, coef4, coef3, coef2, coef1, one_lit, ← EReal.coe_mul, ← EReal.coe_add]

/-- The kernel's features and the cosines are real numbers within `2^-16` of each other. -/
theorem feature_near (k : Fin 8) (z : EReal) : ∃ p q : ℝ, cheb k.val (polyPi z) = (p : EReal)
    ∧ cheb k.val (cosPi z) = (q : EReal) ∧ |p - q| ≤ 1 / 65536 := by
  obtain ⟨t, ht, hb⟩ := tanh_real z
  refine ⟨multi k.val (poly (t * t)), multi k.val (Real.cos (pif * t)), ?_, ?_, multi_near k _ _ (poly_cos t hb)⟩
  · rw [polyPi_real z t ht, cheb_real]
  · unfold cosPi
    rw [ht, pi_lit, ← EReal.coe_mul, Ideal.cos_coe, cheb_real]

/-- Two sums of the same finite weights with near coefficients. -/
theorem sum_near {n : ℕ} (f g v : Fin n → EReal) (h : ∀ i, ∃ p q : ℝ, f i = (p : EReal) ∧ g i = (q : EReal) ∧ |p - q| ≤ 1 / 65536)
    (hv : ∀ i, v i ≠ ⊤ ∧ v i ≠ ⊥) :
    (∑ i, f i * v i) ≤ (∑ i, g i * v i) + Ideal.ofBits .f32 0x37800000#32 * ∑ i, max (v i) (-(v i)) := by
  choose p q hp hq hpq using h
  obtain ⟨u, ev⟩ : ∃ u : Fin n → ℝ, ∀ i, v i = (u i : EReal) :=
    ⟨fun i => (v i).toReal, fun i => (EReal.coe_toReal (hv i).1 (hv i).2).symm⟩
  have hm : ∀ a : ℝ, max (a : EReal) (-(a : EReal)) = ((|a| : ℝ) : EReal) := fun a => by
    rw [← EReal.coe_neg]; exact (EReal.coe_strictMono.monotone.map_max (a := a) (b := -a)).symm
  simp only [hp, hq, ev, hm, err_lit, ← EReal.coe_mul, coe_sum, ← EReal.coe_add]
  rw [EReal.coe_le_coe_iff, Finset.mul_sum, ← Finset.sum_add_distrib]
  refine Finset.sum_le_sum fun i _ => ?_
  have : (p i - q i) * u i ≤ 1 / 65536 * |u i| := by
    refine (le_abs_self _).trans ?_
    rw [abs_mul]
    exact mul_le_mul_of_nonneg_right (hpq i) (abs_nonneg _)
  linarith

end Cert.Kan

end
-- ==== Proof.Near.lean ====
/-
  The kernel as it is written is within the claimed error of the reference, when `x` and the spline weights are finite.
-/
module

public import proofs.«01_k».proof.Proof.WrittenResult
public import proofs.«01_k».proof.Proof.Error
public import proofs.«01_k».proof.Proof.Equal
public import proofs.«01_k».proof.Pre_finite_x_spline
public import proofs.«01_k».proof.Post_within_cosine_error

@[expose] public section

set_option maxRecDepth 16384

noncomputable section

namespace Cert.Kan.Near

open Idealize.ShloMosaic Idealize.ShloMosaic.TcCoe Idealize.SL.Sem

instance preFacts : Cert.Pre_finite_x_spline.Facts := by constructor <;> decide
instance postFacts : Cert.Post_within_cosine_error.Facts := by constructor <;> decide

open Cert.Post_within_cosine_error Cert.Post_within_cosine_error.Facts

/-- The allowed error of each entry, as the predicate spells it. -/
def allowed (ws : FVec Ideal S2048x2048x8 .f32) : FVec Ideal S16384x2048 .f32 :=
  broadcastInDim S16384x2048 ![0, 1] bcast_S1x2048_S16384x2048_0_1 (broadcastInDim S1x2048 ![1] bcast_S2048_S1x2048_1
    (mulf (broadcastInDim S2048 ![] bcast_S_S2048 (constant S_ .f32 0x37800000#32))
      (Host.reduceAdd (Host.absf ws) (constant S_ .f32 0x00000000#32) reducesTo_S2048x2048x8_S2048_d1_2 h_S_)))

theorem allowed_apply (ws : FVec Ideal S2048x2048x8 .f32) (R : Fin 16384) (o : Fin 2048) : allowed ws (ix2 R o)
    = Ideal.ofBits .f32 0x37800000#32 * ∑ i : Fin 2048, ∑ k : Fin 8, max (ws (ix3 o i k)) (-(ws (ix3 o i k))) := by
  pointwise [allowed]
  rfl

/-- The predicate compares the array with the reference's. -/
theorem post_eq (x : FVec Ideal S8x2048x2048 .f32) (w b : FVec Ideal S2048 .f32) (W : FVec Ideal S2048x2048 .f32)
    (ws : FVec Ideal S2048x2048x8 .f32) (out : FVec Ideal S16384x2048 .f32) : fn (F := Ideal) x w b W ws out
      = (cmpf .ole out (addf (Cert.ReferenceIdeal.Read.val_main_v40 (F := Ideal) x w b W ws) (allowed ws)),
        cmpf .ole (Cert.ReferenceIdeal.Read.val_main_v40 (F := Ideal) x w b W ws) (addf out (allowed ws))) := by
  rfl

variable (m : (ℓ : Loc Cert.KernelIdeal.nD Cert.KernelIdeal.τ Cert.KernelIdeal.sig) → Buf (Elt Ideal) ℓ)
  (c : Dev Cert.KernelIdeal.nD)

/-- The spline weights of an output, in the order of the kernel's features. -/
def weight (o : Fin 2048) (n : Fin 16384) : EReal :=
  m ((c.tc : Thread Cert.KernelIdeal.nD Cert.KernelIdeal.τ).loc Cert.KernelIdeal.main_arg4)
    (ix3 o ⟨n.val % 2048, by omega⟩ ⟨n.val / 2048, by omega⟩)

/-- The allowed error as a sum in the order of the kernel's features. -/
theorem allowed_sum (R : Fin 16384) (o : Fin 2048) : allowed (m ((c.tc : Thread Cert.KernelIdeal.nD Cert.KernelIdeal.τ).loc Cert.KernelIdeal.main_arg4)) (ix2 R o)
    = Ideal.ofBits .f32 0x37800000#32 * ∑ n, max (weight m c o n) (-(weight m c o n)) := by
  refine (allowed_apply _ R o).trans (congrArg _ ?_)
  rw [Finset.sum_comm]
  have e : ∀ ws : FVec Ideal S2048x2048x8 .f32, ∑ k : Fin 8, ∑ i : Fin 2048, max (ws (ix3 o i k)) (-(ws (ix3 o i k)))
      = ∑ n : Fin 16384, max (ws (ix3 o ⟨n.val % 2048, by omega⟩ ⟨n.val / 2048, by omega⟩))
          (-(ws (ix3 o ⟨n.val % 2048, by omega⟩ ⟨n.val / 2048, by omega⟩))) := fun ws =>
    (sum_feats fun k i => max (ws (ix3 o i k)) (-(ws (ix3 o i k)))).symm
  exact e _

/-- Two forms of the first cosine whose features are near give results that are near. -/
theorem total_near (C D : EReal → EReal)
    (h : ∀ (k : Fin 8) (z : EReal), ∃ p q : ℝ, cheb k.val (C z) = (p : EReal) ∧ cheb k.val (D z) = (q : EReal) ∧ |p - q| ≤ 1 / 65536)
    (hs : ∀ y, m ((c.tc : Thread Cert.KernelIdeal.nD Cert.KernelIdeal.τ).loc Cert.KernelIdeal.main_arg4) y ≠ (⊤ : EReal) ∧ m ((c.tc : Thread Cert.KernelIdeal.nD Cert.KernelIdeal.τ).loc Cert.KernelIdeal.main_arg4) y ≠ (⊥ : EReal)) (R : Fin 16384) (o : Fin 2048) :
    Cert.KernelCosIdeal.Val.total m c C R o ≤ Cert.KernelCosIdeal.Val.total m c D R o
      + Ideal.ofBits .f32 0x37800000#32 * ∑ n, max (weight m c o n) (-(weight m c o n)) := by
  unfold Cert.KernelCosIdeal.Val.total
  rw [add_assoc]
  exact add_le_add le_rfl (sum_near _ _ (weight m c o) (fun n => h ⟨n.val / 2048, by omega⟩ _) fun n => hs _)

/-- The kernel's result array satisfies the predicate. -/
theorem result_near (hx : ∀ y, m ((c.tc : Thread Cert.KernelIdeal.nD Cert.KernelIdeal.τ).loc Cert.KernelIdeal.main_arg0) y ≠ (⊤ : EReal) ∧ m ((c.tc : Thread Cert.KernelIdeal.nD Cert.KernelIdeal.τ).loc Cert.KernelIdeal.main_arg0) y ≠ (⊥ : EReal))
    (hs : ∀ y, m ((c.tc : Thread Cert.KernelIdeal.nD Cert.KernelIdeal.τ).loc Cert.KernelIdeal.main_arg4) y ≠ (⊤ : EReal) ∧ m ((c.tc : Thread Cert.KernelIdeal.nD Cert.KernelIdeal.τ).loc Cert.KernelIdeal.main_arg4) y ≠ (⊥ : EReal)) :
    fn (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (Cert.KernelIdeal.Value.G5 m c) = (fun _ => 1#1, fun _ => 1#1) := by
  have hr : ∀ y, Cert.ReferenceIdeal.Read.val_main_v40 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)) y
      = Cert.KernelCosIdeal.Val.total m c cosPi (y 0) (y 1) := fun y =>
    (Cert.ReferenceIdeal.Val.flat_apply _ _ _ _ _ y).trans (total_ref m c hx (y 0) (y 1)).symm
  have ha : ∀ y : S16384x2048.Idx, allowed (m ((c.tc : Thread Cert.KernelIdeal.nD Cert.KernelIdeal.τ).loc Cert.KernelIdeal.main_arg4)) y
      = Ideal.ofBits .f32 0x37800000#32 * ∑ n, max (weight m c (y 1) n) (-(weight m c (y 1) n)) := fun y =>
    (congrArg _ (by funext a; match a with | ⟨0, _⟩ => rfl | ⟨1, _⟩ => rfl)).trans (allowed_sum m c (y 0) (y 1))
  have back : ∀ (k : Fin 8) (z : EReal), ∃ p q : ℝ, cheb k.val (cosPi z) = (p : EReal) ∧ cheb k.val (polyPi z) = (q : EReal)
      ∧ |p - q| ≤ 1 / 65536 := fun k z => by
    obtain ⟨p, q, hp, hq, hd⟩ := feature_near k z
    exact ⟨q, p, hq, hp, by rwa [abs_sub_comm]⟩
  have one : ∀ a b : EReal, a ≤ b → Ideal.cmp .ole a b = 1#1 := fun a b h => by simp [Ideal.cmp, h]
  rw [post_eq]
  refine Prod.ext (funext fun y => ?_) (funext fun y => ?_)
  · refine one _ _ ?_
    show @LE.le EReal _ (Cert.KernelIdeal.Value.G5 m c y) (Cert.ReferenceIdeal.Read.val_main_v40 (F := Ideal) _ _ _ _ _ y + allowed _ y)
    rw [Cert.KernelIdeal.Val.result_eq, hr, ha]
    exact total_near m c polyPi cosPi feature_near hs (y 0) (y 1)
  · refine one _ _ ?_
    show Cert.ReferenceIdeal.Read.val_main_v40 (F := Ideal) _ _ _ _ _ y ≤ @HAdd.hAdd EReal EReal EReal _ (Cert.KernelIdeal.Value.G5 m c y) (allowed _ y)
    rw [Cert.KernelIdeal.Val.result_eq, hr, ha]
    exact total_near m c cosPi polyPi back hs (y 0) (y 1)

/-- The precondition at an element of `x` and of the spline weights. -/
theorem finite_of_pre (x : FVec Ideal S8x2048x2048 .f32) (w b : FVec Ideal S2048 .f32) (W : FVec Ideal S2048x2048 .f32)
    (ws : FVec Ideal S2048x2048x8 .f32) (h0 : (Cert.Pre_finite_x_spline.fn (F := Ideal) x w b W ws).1 = fun _ => 1#1)
    (h1 : (Cert.Pre_finite_x_spline.fn (F := Ideal) x w b W ws).2 = fun _ => 1#1) :
    (∀ y, x y ≠ (⊤ : EReal) ∧ x y ≠ (⊥ : EReal)) ∧ ∀ y, ws y ≠ (⊤ : EReal) ∧ ws y ≠ (⊥ : EReal) :=
  ⟨fun y => finite_of_cmp _ (congrFun h0 y), fun y => finite_of_cmp _ (congrFun h1 y)⟩

end Cert.Kan.Near

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelCos
public import proofs.«01_k».proof.Proof.Gen.KernelCos.Frame
public import proofs.«01_k».proof.Proof.Gen.KernelCosIdeal
public import proofs.«01_k».proof.Proof.Gen.KernelCosIdeal.Frame
public import proofs.«01_k».proof.Proof.Gen.KernelOne
public import proofs.«01_k».proof.Proof.Gen.KernelOne.Frame
public import proofs.«01_k».proof.Proof.Gen.KernelOneIdeal
public import proofs.«01_k».proof.Proof.Gen.KernelOneIdeal.Frame
public import proofs.«01_k».proof.Proof.Gen.KernelIdeal.Value
public import proofs.«01_k».proof.Proof.Gen.KernelCosIdeal.Value
public import proofs.«01_k».proof.Proof.Gen.KernelOneIdeal.Value
public import proofs.«01_k».proof.Proof.Gen.Reference
public import proofs.«01_k».proof.Proof.Gen.ReferenceIdeal
public import proofs.«01_k».proof.Proof.Gen.ReferenceIdeal.Run
public import proofs.«01_k».proof.Proof.Gen.ReferenceIdeal.Read
public import proofs.«01_k».proof.Proof.Equal
public import proofs.«01_k».proof.Proof.OneEqual
public import proofs.«01_k».proof.Proof.Near
public import Idealize.ShloMosaic.Adequacy
public import Idealize.ShloMosaic.Init

@[expose] public section

noncomputable section

namespace Cert.Proof

open Idealize.ShloMosaic Idealize.SL.Sem Cert.Kernel

/-- The reference's run leaves its arguments and the counters. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference on float words: the program is the same text, so its run is the general one. -/
theorem frame_ref_words : Cert.quiescent_Reference := fun m ρ _ =>
  (θ_run Cert.ReferenceIdeal.defs _ _).mono (fun r h => ⟨fun c => (h c).2, sem_eq_zero_of_no_sems (by decide) r.2⟩)
    (Cert.ReferenceIdeal.Value.run (F := Bits) m ρ)

/-- The value claim: with `x` finite, the kernel's result array is the reference's. -/
theorem value : Cert.algebraic_KernelCosIdeal_ReferenceIdeal_pre_finite_x := by
  intro m ρ m' ρ' hpre hagree
  refine ⟨fun c => Cert.KernelCosIdeal.Value.G5 m c, Cert.KernelCosIdeal.Value.run (F := Ideal) m ρ, ?_⟩
  refine (θ_run Cert.ReferenceIdeal.defs _ _).mono (fun _ h c => ⟨((h c).1.trans ?_), (h c).2⟩)
    (Cert.ReferenceIdeal.Value.run (F := Ideal) m' ρ')
  refine (Cert.ReferenceIdeal.Read.val_main_v40_eq m' c).trans (Eq.trans ?_ (Cert.Kan.result_ref m c (hpre c)))
  obtain ⟨h0, h1, h2, h3, h4⟩ := hagree c
  rw [h0, h1, h2, h3, h4]

/-- The value claim of the first version: the kernel's result array is the reference's, for all arguments. -/
theorem value_one : Cert.algebraic_KernelOneIdeal_ReferenceIdeal := by
  intro m ρ m' ρ' _ hagree
  refine ⟨fun c => Cert.KernelOneIdeal.Value.G4 m c, Cert.KernelOneIdeal.Value.run (F := Ideal) m ρ, ?_⟩
  refine (θ_run Cert.ReferenceIdeal.defs _ _).mono (fun _ h c => ⟨((h c).1.trans ?_), (h c).2⟩)
    (Cert.ReferenceIdeal.Value.run (F := Ideal) m' ρ')
  refine (Cert.ReferenceIdeal.Read.val_main_v40_eq m' c).trans (Eq.trans ?_ (Cert.Kan.One.result_ref m c))
  obtain ⟨h0, h1, h2, h3, h4⟩ := hagree c
  rw [h0, h1, h2, h3, h4]

/-- The error bound: with `x` and the spline weights finite, the kernel as it is written is within `2^-16` times the sum of
    an output's absolute spline weights of the reference. -/
theorem value_near : Cert.holds_KernelIdeal_within_cosine_error_pre_finite_x_spline := by
  intro m ρ hpre
  refine (θ_run Cert.KernelIdeal.defs _ _).mono (fun r h c => ?_) (Cert.KernelIdeal.Value.run (F := Ideal) m ρ)
  obtain ⟨hx, hs⟩ := Cert.Kan.Near.finite_of_pre _ _ _ _ _ (hpre c).1 (hpre c).2
  have e := Cert.Kan.Near.result_near m c hx hs
  rw [← (h c).1] at e
  exact ⟨(h c).2.1, (h c).2.2.1, (h c).2.2.2.1, (h c).2.2.2.2.1, (h c).2.2.2.2.2, congrArg Prod.fst e, congrArg Prod.snd e⟩

/-- Everything that is claimed. -/
theorem claim : Cert.Claim :=
  ⟨Cert.Kernel.Gen.facts, Cert.KernelIdeal.Gen.facts, Cert.KernelCos.Gen.facts, Cert.KernelCosIdeal.Gen.facts,
    Cert.KernelOne.Gen.facts, Cert.KernelOneIdeal.Gen.facts, Cert.ReferenceIdeal.Gen.facts, Cert.Reference.Gen.facts,
    Cert.Kan.Near.preFacts, Cert.Kan.finiteFacts, Cert.Kan.Near.postFacts,
    fun m ρ _ => Cert.Kernel.Gen.frame m ρ, fun m ρ _ => Cert.KernelIdeal.Gen.frame m ρ,
    fun m ρ _ => Cert.KernelIdeal.Gen.frame m ρ,
    fun m ρ _ => Cert.KernelCos.Gen.frame m ρ, fun m ρ _ => Cert.KernelCosIdeal.Gen.frame m ρ,
    fun m ρ _ => Cert.KernelCosIdeal.Gen.frame m ρ, fun m ρ _ => Cert.KernelOne.Gen.frame m ρ,
    fun m ρ _ => Cert.KernelOneIdeal.Gen.frame m ρ, frame_ref, fun m ρ _ => frame_ref m ρ trivial, frame_ref_words,
    trivial, trivial, trivial, trivial, value_near, value, value_one⟩

end Cert.Proof

end
